-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "r96" .f32 0x3C2AAAAB#32 ((96⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4x250x96 : Shape := ⟨4, ![1, 4, 250, 96]⟩
abbrev S128 : Shape := ⟨1, ![128]⟩
abbrev S128x128 : Shape := ⟨2, ![128, 128]⟩
abbrev S256x128 : Shape := ⟨2, ![256, 128]⟩
abbrev S256 : Shape := ⟨1, ![256]⟩
abbrev S128x256 : Shape := ⟨2, ![128, 256]⟩
abbrev S96x96 : Shape := ⟨2, ![96, 96]⟩
abbrev S4x250x96 : Shape := ⟨3, ![4, 250, 96]⟩
abbrev S100x10x96 : Shape := ⟨3, ![100, 10, 96]⟩
abbrev S1x128 : Shape := ⟨2, ![1, 128]⟩
abbrev S1x256 : Shape := ⟨2, ![1, 256]⟩
abbrev S4x128x96 : Shape := ⟨3, ![4, 128, 96]⟩
abbrev S1x10x96 : Shape := ⟨3, ![1, 10, 96]⟩
abbrev S1x128x96 : Shape := ⟨3, ![1, 128, 96]⟩
abbrev S960x960 : Shape := ⟨2, ![960, 960]⟩
abbrev S10x96 : Shape := ⟨2, ![10, 96]⟩
abbrev S10x96x1 : Shape := ⟨3, ![10, 96, 1]⟩
abbrev S1x1x128 : Shape := ⟨3, ![1, 1, 128]⟩
abbrev S10x96x128 : Shape := ⟨3, ![10, 96, 128]⟩
abbrev S960x128 : Shape := ⟨2, ![960, 128]⟩
abbrev S960x16 : Shape := ⟨2, ![960, 16]⟩
abbrev S1x96x96 : Shape := ⟨3, ![1, 96, 96]⟩
abbrev S10x96x96 : Shape := ⟨3, ![10, 96, 96]⟩
abbrev S10x1x96 : Shape := ⟨3, ![10, 1, 96]⟩
abbrev S10x96x16 : Shape := ⟨3, ![10, 96, 16]⟩
abbrev S10x16 : Shape := ⟨2, ![10, 16]⟩
abbrev S10x1x16 : Shape := ⟨3, ![10, 1, 16]⟩
abbrev S960 : Shape := ⟨1, ![960]⟩
abbrev S960x1 : Shape := ⟨2, ![960, 1]⟩
abbrev S960x256 : Shape := ⟨2, ![960, 256]⟩
abbrev S96x128 : Shape := ⟨2, ![96, 128]⟩
abbrev S128x96 : Shape := ⟨2, ![128, 96]⟩

abbrev nBuf : Space → Nat
  | .hbm => 42
  | .vmem => 25
  | .smem => 0
  | _ => 0

abbrev bufTy : (tb : Table) → Fin (tcTables nBuf tb) → BufTy
  | .hbm, ⟨0, _⟩ => ⟨S1x4x250x96, .f32⟩
  | .hbm, ⟨1, _⟩ => ⟨S128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S256, .f32⟩
  | .hbm, ⟨13, _⟩ => ⟨S128x256, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S96x96, .f32⟩
  | .hbm, ⟨20, _⟩ => ⟨S96x96, .f32⟩
  | .hbm, ⟨21, _⟩ => ⟨S4x250x96, .f32⟩
  | .hbm, ⟨22, _⟩ => ⟨S100x10x96, .f32⟩
  | .hbm, ⟨23, _⟩ => ⟨S1x128, .f32⟩
  | .hbm, ⟨24, _⟩ => ⟨S1x128, .f32⟩
  | .hbm, ⟨25, _⟩ => ⟨S128x128, .f32⟩
  | .hbm, ⟨26, _⟩ => ⟨S1x128, .f32⟩
  | .hbm, ⟨27, _⟩ => ⟨S128x128, .f32⟩
  | .hbm, ⟨28, _⟩ => ⟨S1x128, .f32⟩
  | .hbm, ⟨29, _⟩ => ⟨S128x128, .f32⟩
  | .hbm, ⟨30, _⟩ => ⟨S1x128, .f32⟩
  | .hbm, ⟨31, _⟩ => ⟨S128x128, .f32⟩
  | .hbm, ⟨32, _⟩ => ⟨S1x128, .f32⟩
  | .hbm, ⟨33, _⟩ => ⟨S128x256, .f32⟩
  | .hbm, ⟨34, _⟩ => ⟨S1x256, .f32⟩
  | .hbm, ⟨35, _⟩ => ⟨S256x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S4x128x96, .f32⟩
  | .local _ .vmem, ⟨0, _⟩ => ⟨S1x10x96, .f32⟩
  | .local _ .vmem, ⟨1, _⟩ => ⟨S1x10x96, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x256, .f32⟩
  | .local _ .vmem, ⟨13, _⟩ => ⟨S1x256, .f32⟩
  | .local _ .vmem, ⟨14, _⟩ => ⟨S256x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S96x96, .f32⟩
  | .local _ .vmem, ⟨21, _⟩ => ⟨S96x96, .f32⟩
  | .local _ .vmem, ⟨22, _⟩ => ⟨S1x128x96, .f32⟩
  | .local _ .vmem, ⟨23, _⟩ => ⟨S1x128x96, .f32⟩
  | .local _ .vmem, ⟨24, _⟩ => ⟨S960x960, .f32⟩
  | _, _ => ⟨S1x4x250x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c25_i32 : BitVec 32 := 25#32
  let c0_i32_355 : BitVec 32 := 0#32
  let v1221 : BitVec 1 := Scalar.cmpi .eq c25_i32 c0_i32_355
  let c1_i32 : BitVec 32 := 1#32
  let v1222 : BitVec 32 := Scalar.select v1221 c1_i32 c25_i32
  let v1223 : BitVec 32 := Scalar.remsi arg0 v1222
  let c0_i32_357 : BitVec 32 := 0#32
  let v1225 : BitVec 1 := Scalar.cmpi .slt v1223 c0_i32_357
  let c0_i32_358 : BitVec 32 := 0#32
  let v1226 : BitVec 1 := Scalar.cmpi .slt v1222 c0_i32_358
  let v1227 : BitVec 1 := Scalar.xori v1225 v1226
  let c0_i32_356 : BitVec 32 := 0#32
  let v1224 : BitVec 1 := Scalar.cmpi .ne v1223 c0_i32_356
  let v1228 : BitVec 1 := Scalar.andi v1227 v1224
  let v1229 : BitVec 32 := Scalar.addi v1223 v1222
  let v1230 : BitVec 32 := Scalar.select v1228 v1229 v1223
  let c0_i32_359 : BitVec 32 := 0#32
  let v1231 : BitVec 1 := Scalar.cmpi .eq v1230 c0_i32_359
  let v1232 : BitVec 32 := Scalar.extui v1231
  let c0_i32_360 : BitVec 32 := 0#32
  let v1233 : BitVec 1 := Scalar.cmpi .ne v1232 c0_i32_360
  v1233

def k0_cond3 (i : grid0.Coords) : BitVec 1 :=
  let arg0 : BitVec 32 := BitVec.ofNat 32 (i 0).val
  let c25_i32_361 : BitVec 32 := 25#32
  let c0_i32_362 : BitVec 32 := 0#32
  let v1234 : BitVec 1 := Scalar.cmpi .eq c25_i32_361 c0_i32_362
  let c1_i32_363 : BitVec 32 := 1#32
  let v1235 : BitVec 32 := Scalar.select v1234 c1_i32_363 c25_i32_361
  let v1236 : BitVec 32 := Scalar.remsi arg0 v1235
  let c0_i32_365 : BitVec 32 := 0#32
  let v1238 : BitVec 1 := Scalar.cmpi .slt v1236 c0_i32_365
  let c0_i32_366 : BitVec 32 := 0#32
  let v1239 : BitVec 1 := Scalar.cmpi .slt v1235 c0_i32_366
  let v1240 : BitVec 1 := Scalar.xori v1238 v1239
  let c0_i32_364 : BitVec 32 := 0#32
  let v1237 : BitVec 1 := Scalar.cmpi .ne v1236 c0_i32_364
  let v1241 : BitVec 1 := Scalar.andi v1240 v1237
  let v1242 : BitVec 32 := Scalar.addi v1236 v1235
  let v1243 : BitVec 32 := Scalar.select v1241 v1242 v1236
  let c0_i32_367 : BitVec 32 := 0#32
  let v1244 : BitVec 1 := Scalar.cmpi .ne v1243 c0_i32_367
  let v1245 : BitVec 32 := Scalar.extui v1244
  let c0_i32_368 : BitVec 32 := 0#32
  let v1246 : BitVec 1 := Scalar.cmpi .ne v1245 c0_i32_368
  v1246

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1x10x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S96x96 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S96x96 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1x128x96 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== KernelIdeal.lean ====
variable {F : FTy → Type} [FloatOps F] [Named F]
def κ : String → Option EReal := fun
  | "mask" => some ⊥
  | "r96" => some ((96⁻¹ : ℝ) : EReal)
  | _ => none
-- ==== ReferenceIdeal.lean ====
abbrev S1x4x250x96 : Shape := ⟨4, ![1, 4, 250, 96]⟩
abbrev S128 : Shape := ⟨1, ![128]⟩
abbrev S128x128 : Shape := ⟨2, ![128, 128]⟩
abbrev S256x128 : Shape := ⟨2, ![256, 128]⟩
abbrev S256 : Shape := ⟨1, ![256]⟩
abbrev S128x256 : Shape := ⟨2, ![128, 256]⟩
abbrev S96x15 : Shape := ⟨2, ![96, 15]⟩
abbrev S4x250x96 : Shape := ⟨3, ![4, 250, 96]⟩
abbrev S4x250x96x1 : Shape := ⟨4, ![4, 250, 96, 1]⟩
abbrev S1x1x1x128 : Shape := ⟨4, ![1, 1, 1, 128]⟩
abbrev S4x250x96x128 : Shape := ⟨4, ![4, 250, 96, 128]⟩
abbrev S1000x96x128 : Shape := ⟨3, ![1000, 96, 128]⟩
abbrev S1x1x128 : Shape := ⟨3, ![1, 1, 128]⟩
abbrev S1000x96x8x16 : Shape := ⟨4, ![1000, 96, 8, 16]⟩
abbrev S1000x8x96x16 : Shape := ⟨4, ![1000, 8, 96, 16]⟩
abbrev S_ : Shape := ⟨0, ![]⟩
abbrev S96x15x1 : Shape := ⟨3, ![96, 15, 1]⟩
abbrev S1000x8x96x15x16 : Shape := ⟨5, ![1000, 8, 96, 15, 16]⟩
abbrev S1000x8x96x15 : Shape := ⟨4, ![1000, 8, 96, 15]⟩
abbrev S1000x8x96 : Shape := ⟨3, ![1000, 8, 96]⟩
abbrev S1000x8x15 : Shape := ⟨3, ![1000, 8, 15]⟩
abbrev S1000x8x15x1 : Shape := ⟨4, ![1000, 8, 15, 1]⟩
abbrev S1 : Shape := ⟨1, ![1]⟩
abbrev S1x1x1x1 : Shape := ⟨4, ![1, 1, 1, 1]⟩
abbrev S1000x8x15x16 : Shape := ⟨4, ![1000, 8, 15, 16]⟩
abbrev S1000x8x15x96 : Shape := ⟨4, ![1000, 8, 15, 96]⟩
abbrev S1000x8x16 : Shape := ⟨3, ![1000, 8, 16]⟩
abbrev S1000x8x1x16 : Shape := ⟨4, ![1000, 8, 1, 16]⟩
abbrev S1000 : Shape := ⟨1, ![1000]⟩
abbrev S1000x1x1 : Shape := ⟨3, ![1000, 1, 1]⟩
abbrev S8 : Shape := ⟨1, ![8]⟩
abbrev S1x8x1 : Shape := ⟨3, ![1, 8, 1]⟩
abbrev S1000x8x15x3 : Shape := ⟨4, ![1000, 8, 15, 3]⟩
abbrev S1000x96 : Shape := ⟨2, ![1000, 96]⟩
abbrev S1000x96x1 : Shape := ⟨3, ![1000, 96, 1]⟩
abbrev S1000x96x256 : Shape := ⟨3, ![1000, 96, 256]⟩
abbrev S1x1x256 : Shape := ⟨3, ![1, 1, 256]⟩
abbrev S4x128x96x250 : Shape := ⟨4, ![4, 128, 96, 250]⟩
abbrev S4x128x96 : Shape := ⟨3, ![4, 128, 96]⟩

abbrev nBuf : Space → Nat
  | .hbm => 236
  | .vmem => 0
  | .smem => 0
  | _ => 0

abbrev hbmTy0_0 (i : Nat) : BufTy := match i % 128 with
  | 0 => ⟨S1x4x250x96, .f32⟩
  | 1 => ⟨S128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S256x128, .f32⟩
  | 12 => ⟨S256, .f32⟩
  | 13 => ⟨S128x256, .f32⟩
  | 14 => ⟨S128, .f32⟩
  | 15 => ⟨S128, .f32⟩
  | 16 => ⟨S128, .f32⟩
  | 17 => ⟨S128, .f32⟩
  | 18 => ⟨S128, .f32⟩
  | 19 => ⟨S96x15, .i32⟩
  | 20 => ⟨S4x250x96, .f32⟩
  | 21 => ⟨S4x250x96x1, .f32⟩
  | 22 => ⟨S1x1x1x128, .f32⟩
  | 23 => ⟨S4x250x96x128, .f32⟩
  | 24 => ⟨S4x250x96x128, .f32⟩
  | 25 => ⟨S4x250x96x128, .f32⟩
  | 26 => ⟨S1x1x1x128, .f32⟩
  | 27 => ⟨S4x250x96x128, .f32⟩
  | 28 => ⟨S4x250x96x128, .f32⟩
  | 29 => ⟨S1000x96x128, .f32⟩
  | 30 => ⟨S128x128, .f32⟩
  | 31 => ⟨S1000x96x128, .f32⟩
  | 32 => ⟨S1x1x128, .f32⟩
  | 33 => ⟨S1000x96x128, .f32⟩
  | 34 => ⟨S1000x96x128, .f32⟩
  | 35 => ⟨S1000x96x8x16, .f32⟩
  | 36 => ⟨S1000x8x96x16, .f32⟩
  | 37 => ⟨S128x128, .f32⟩
  | 38 => ⟨S1000x96x128, .f32⟩
  | 39 => ⟨S1x1x128, .f32⟩
  | 40 => ⟨S1000x96x128, .f32⟩
  | 41 => ⟨S1000x96x128, .f32⟩
  | 42 => ⟨S1000x96x8x16, .f32⟩
  | 43 => ⟨S1000x8x96x16, .f32⟩
  | 44 => ⟨S128x128, .f32⟩
  | 45 => ⟨S1000x96x128, .f32⟩
  | 46 => ⟨S1x1x128, .f32⟩
  | 47 => ⟨S1000x96x128, .f32⟩
  | 48 => ⟨S1000x96x128, .f32⟩
  | 49 => ⟨S1000x96x8x16, .f32⟩
  | 50 => ⟨S1000x8x96x16, .f32⟩
  | 51 => ⟨S_, .i32⟩
  | 52 => ⟨S96x15, .i32⟩
  | 53 => ⟨S96x15, .i1⟩
  | 54 => ⟨S_, .i32⟩
  | 55 => ⟨S96x15, .i32⟩
  | 56 => ⟨S96x15, .i32⟩
  | 57 => ⟨S96x15, .i32⟩
  | 58 => ⟨S96x15x1, .i32⟩
  | 59 => ⟨S1000x8x96x15x16, .f32⟩
  | 60 => ⟨S1000x8x96x15, .f32⟩
  | 61 => ⟨S_, .f32⟩
  | 62 => ⟨S1000x8x96, .f32⟩
  | 63 => ⟨S_, .f32⟩
  | 64 => ⟨S1000x8x96, .f32⟩
  | 65 => ⟨S_, .f32⟩
  | 66 => ⟨S1000x8x96, .f32⟩
  | 67 => ⟨S1000x8x96, .f32⟩
  | 68 => ⟨S1000x8x96, .f32⟩
  | 69 => ⟨S1000x8x15, .f32⟩
  | 70 => ⟨S1000x8x15, .i32⟩
  | 71 => ⟨S1000x8x15x1, .i32⟩
  | 72 => ⟨S_, .i32⟩
  | 73 => ⟨S1000x8x15x1, .i32⟩
  | 74 => ⟨S1000x8x15x1, .i1⟩
  | 75 => ⟨S_, .i32⟩
  | 76 => ⟨S1000x8x15x1, .i32⟩
  | 77 => ⟨S1000x8x15x1, .i32⟩
  | 78 => ⟨S1000x8x15x1, .i32⟩
  | 79 => ⟨S1, .i32⟩
  | 80 => ⟨S_, .i32⟩
  | 81 => ⟨S1000x8x15x1, .i32⟩
  | 82 => ⟨S1000x8x15x1, .i1⟩
  | 83 => ⟨S1x1x1x1, .i32⟩
  | 84 => ⟨S1000x8x15x1, .i32⟩
  | 85 => ⟨S1000x8x15x1, .i1⟩
  | 86 => ⟨S1000x8x15x1, .i1⟩
  | 87 => ⟨S_, .i1⟩
  | 88 => ⟨S1000x8x15, .i1⟩
  | 89 => ⟨S1000x8x15x16, .f32⟩
  | 90 => ⟨S1000x8x15x16, .i1⟩
  | 91 => ⟨S_, .f32⟩
  | 92 => ⟨S1000x8x15x16, .f32⟩
  | 93 => ⟨S1000x8x15x16, .f32⟩
  | 94 => ⟨S1000x8x15x96, .f32⟩
  | 95 => ⟨S_, .f32⟩
  | 96 => ⟨S1000x8x15x96, .f32⟩
  | 97 => ⟨S1000x8x15x96, .f32⟩
  | 98 => ⟨S_, .f32⟩
  | 99 => ⟨S1000x8x15, .f32⟩
  | 100 => ⟨S_, .f32⟩
  | 101 => ⟨S1000x8x15, .f32⟩
  | 102 => ⟨S1000x8x15, .f32⟩
  | 103 => ⟨S1000x8x15x1, .f32⟩
  | 104 => ⟨S1000x8x15x96, .f32⟩
  | 105 => ⟨S1000x8x15x96, .f32⟩
  | 106 => ⟨S1000x8x15x96, .f32⟩
  | 107 => ⟨S_, .f32⟩
  | 108 => ⟨S1000x8x15, .f32⟩
  | 109 => ⟨S1000x8x15x1, .f32⟩
  | 110 => ⟨S1000x8x15x96, .f32⟩
  | 111 => ⟨S1000x8x15x96, .f32⟩
  | 112 => ⟨S1000x8x15x16, .f32⟩
  | 113 => ⟨S_, .f32⟩
  | 114 => ⟨S1000x8x16, .f32⟩
  | 115 => ⟨S1000x8x1x16, .f32⟩
  | 116 => ⟨S_, .f32⟩
  | 117 => ⟨S1000x8x1x16, .f32⟩
  | 118 => ⟨S1000x8x1x16, .f32⟩
  | 119 => ⟨S1000x8x96x16, .f32⟩
  | 120 => ⟨S1000, .i32⟩
  | 121 => ⟨S1000x1x1, .i32⟩
  | 122 => ⟨S8, .i32⟩
  | 123 => ⟨S1x8x1, .i32⟩
  | 124 => ⟨S_, .i32⟩
  | 125 => ⟨S1000x1x1, .i32⟩
  | 126 => ⟨S1000x1x1, .i1⟩
  | 127 => ⟨S_, .i32⟩
  | _ => ⟨S1x4x250x96, .f32⟩

abbrev hbmTy0_1 (i : Nat) : BufTy := match i % 128 with
  | 0 => ⟨S1000x1x1, .i32⟩
  | 1 => ⟨S1000x1x1, .i32⟩
  | 2 => ⟨S1000x1x1, .i32⟩
  | 3 => ⟨S_, .i32⟩
  | 4 => ⟨S1x8x1, .i32⟩
  | 5 => ⟨S1x8x1, .i1⟩
  | 6 => ⟨S_, .i32⟩
  | 7 => ⟨S1x8x1, .i32⟩
  | 8 => ⟨S1x8x1, .i32⟩
  | 9 => ⟨S1x8x1, .i32⟩
  | 10 => ⟨S_, .i32⟩
  | 11 => ⟨S1000x8x15, .i32⟩
  | 12 => ⟨S1000x8x15, .i1⟩
  | 13 => ⟨S_, .i32⟩
  | 14 => ⟨S1000x8x15, .i32⟩
  | 15 => ⟨S1000x8x15, .i32⟩
  | 16 => ⟨S1000x8x15, .i32⟩
  | 17 => ⟨S1000x8x15, .i32⟩
  | 18 => ⟨S1000x8x15, .i32⟩
  | 19 => ⟨S1000x8x15x1, .i32⟩
  | 20 => ⟨S1000x8x15x1, .i32⟩
  | 21 => ⟨S1000x8x15x1, .i32⟩
  | 22 => ⟨S1000x8x15x3, .i32⟩
  | 23 => ⟨S1000x8x96x16, .f32⟩
  | 24 => ⟨S1000x96x8x16, .f32⟩
  | 25 => ⟨S1000x96x128, .f32⟩
  | 26 => ⟨S128x128, .f32⟩
  | 27 => ⟨S1000x96x128, .f32⟩
  | 28 => ⟨S1x1x128, .f32⟩
  | 29 => ⟨S1000x96x128, .f32⟩
  | 30 => ⟨S1000x96x128, .f32⟩
  | 31 => ⟨S1000x96x128, .f32⟩
  | 32 => ⟨S_, .f32⟩
  | 33 => ⟨S1000x96, .f32⟩
  | 34 => ⟨S1000x96x1, .f32⟩
  | 35 => ⟨S_, .f32⟩
  | 36 => ⟨S1000x96x1, .f32⟩
  | 37 => ⟨S1000x96x1, .f32⟩
  | 38 => ⟨S1000x96x128, .f32⟩
  | 39 => ⟨S1000x96x128, .f32⟩
  | 40 => ⟨S1000x96x128, .f32⟩
  | 41 => ⟨S_, .f32⟩
  | 42 => ⟨S1000x96, .f32⟩
  | 43 => ⟨S1000x96x1, .f32⟩
  | 44 => ⟨S_, .f32⟩
  | 45 => ⟨S1000x96x1, .f32⟩
  | 46 => ⟨S1000x96x1, .f32⟩
  | 47 => ⟨S1000x96x128, .f32⟩
  | 48 => ⟨S1000x96x128, .f32⟩
  | 49 => ⟨S_, .f32⟩
  | 50 => ⟨S1000x96x1, .f32⟩
  | 51 => ⟨S1000x96x1, .f32⟩
  | 52 => ⟨S1000x96x1, .f32⟩
  | 53 => ⟨S1000x96x128, .f32⟩
  | 54 => ⟨S1000x96x128, .f32⟩
  | 55 => ⟨S1x1x128, .f32⟩
  | 56 => ⟨S1000x96x128, .f32⟩
  | 57 => ⟨S1000x96x128, .f32⟩
  | 58 => ⟨S1x1x128, .f32⟩
  | 59 => ⟨S1000x96x128, .f32⟩
  | 60 => ⟨S1000x96x128, .f32⟩
  | 61 => ⟨S128x256, .f32⟩
  | 62 => ⟨S1000x96x256, .f32⟩
  | 63 => ⟨S1x1x256, .f32⟩
  | 64 => ⟨S1000x96x256, .f32⟩
  | 65 => ⟨S1000x96x256, .f32⟩
  | 66 => ⟨S_, .f32⟩
  | 67 => ⟨S1000x96x256, .f32⟩
  | 68 => ⟨S1000x96x256, .f32⟩
  | 69 => ⟨S256x128, .f32⟩
  | 70 => ⟨S1000x96x128, .f32⟩
  | 71 => ⟨S1x1x128, .f32⟩
  | 72 => ⟨S1000x96x128, .f32⟩
  | 73 => ⟨S1000x96x128, .f32⟩
  | 74 => ⟨S1000x96x128, .f32⟩
  | 75 => ⟨S_, .f32⟩
  | 76 => ⟨S1000x96, .f32⟩
  | 77 => ⟨S1000x96x1, .f32⟩
  | 78 => ⟨S_, .f32⟩
  | 79 => ⟨S1000x96x1, .f32⟩
  | 80 => ⟨S1000x96x1, .f32⟩
  | 81 => ⟨S1000x96x128, .f32⟩
  | 82 => ⟨S1000x96x128, .f32⟩
  | 83 => ⟨S1000x96x128, .f32⟩
  | 84 => ⟨S_, .f32⟩
  | 85 => ⟨S1000x96, .f32⟩
  | 86 => ⟨S1000x96x1, .f32⟩
  | 87 => ⟨S_, .f32⟩
  | 88 => ⟨S1000x96x1, .f32⟩
  | 89 => ⟨S1000x96x1, .f32⟩
  | 90 => ⟨S1000x96x128, .f32⟩
  | 91 => ⟨S1000x96x128, .f32⟩
  | 92 => ⟨S_, .f32⟩
  | 93 => ⟨S1000x96x1, .f32⟩
  | 94 => ⟨S1000x96x1, .f32⟩
  | 95 => ⟨S1000x96x1, .f32⟩
  | 96 => ⟨S1000x96x128, .f32⟩
  | 97 => ⟨S1000x96x128, .f32⟩
  | 98 => ⟨S1x1x128, .f32⟩
  | 99 => ⟨S1000x96x128, .f32⟩
  | 100 => ⟨S1000x96x128, .f32⟩
  | 101 => ⟨S1x1x128, .f32⟩
  | 102 => ⟨S1000x96x128, .f32⟩
  | 103 => ⟨S1000x96x128, .f32⟩
  | 104 => ⟨S4x250x96x128, .f32⟩
  | 105 => ⟨S4x128x96x250, .f32⟩
  | 106 => ⟨S_, .f32⟩
  | 107 => ⟨S4x128x96, .f32⟩
  | _ => ⟨S1x4x250x96, .f32⟩

abbrev hbmTy (i : Nat) : BufTy := match i / 128 with
  | 0 => hbmTy0_0 i
  | 1 => hbmTy0_1 i
  | _ => ⟨S1x4x250x96, .f32⟩

abbrev bufTy : (tb : Table) → Fin (tcTables nBuf tb) → BufTy
  | .hbm, ⟨i, _⟩ => hbmTy i
  | _, _ => ⟨S1x4x250x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_0 : Ref sig .tc := ⟨.hbm, 51, rfl⟩
abbrev main_v31 : Ref sig .tc := ⟨.hbm, 52, rfl⟩
abbrev main_v32 : Ref sig .tc := ⟨.hbm, 53, rfl⟩
abbrev main_c_1 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_values : Ref sig .tc := ⟨.hbm, 69, rfl⟩
abbrev main_indices : Ref sig .tc := ⟨.hbm, 70, rfl⟩
abbrev main_v44 : Ref sig .tc := ⟨.hbm, 71, rfl⟩
abbrev main_call0_c : Ref sig .tc := ⟨.hbm, 72, rfl⟩
abbrev main_call0_v0 : Ref sig .tc := ⟨.hbm, 73, rfl⟩
abbrev main_call0_v1 : Ref sig .tc := ⟨.hbm, 74, rfl⟩
abbrev main_call0_c_0 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_c_1 : Ref sig .tc := ⟨.hbm, 79, rfl⟩
abbrev main_call0_c_2 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_c_3 : Ref sig .tc := ⟨.hbm, 87, rfl⟩
abbrev main_call0_v11 : Ref sig .tc := ⟨.hbm, 88, rfl⟩
abbrev main_call0_v12 : Ref sig .tc := ⟨.hbm, 89, rfl⟩
abbrev main_call0_v13 : Ref sig .tc := ⟨.hbm, 90, rfl⟩
abbrev main_call0_cst : Ref sig .tc := ⟨.hbm, 91, rfl⟩
abbrev main_call0_v14 : Ref sig .tc := ⟨.hbm, 92, rfl⟩
abbrev main_v45 : Ref sig .tc := ⟨.hbm, 93, rfl⟩
abbrev main_v46 : Ref sig .tc := ⟨.hbm, 94, rfl⟩
abbrev main_cst_4 : Ref sig .tc := ⟨.hbm, 95, rfl⟩
abbrev main_v47 : Ref sig .tc := ⟨.hbm, 96, rfl⟩
abbrev main_v48 : Ref sig .tc := ⟨.hbm, 97, rfl⟩
abbrev main_cst_5 : Ref sig .tc := ⟨.hbm, 98, rfl⟩
abbrev main_v49 : Ref sig .tc := ⟨.hbm, 99, rfl⟩
abbrev main_cst_6 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_7 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_cst_8 : Ref sig .tc := ⟨.hbm, 113, rfl⟩
abbrev main_v61 : Ref sig .tc := ⟨.hbm, 114, rfl⟩
abbrev main_v62 : Ref sig .tc := ⟨.hbm, 115, rfl⟩
abbrev main_cst_9 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_c_10 : Ref sig .tc := ⟨.hbm, 124, rfl⟩
abbrev main_v70 : Ref sig .tc := ⟨.hbm, 125, rfl⟩
abbrev main_v71 : Ref sig .tc := ⟨.hbm, 126, rfl⟩
abbrev main_c_11 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_c_12 : Ref sig .tc := ⟨.hbm, 131, rfl⟩
abbrev main_v75 : Ref sig .tc := ⟨.hbm, 132, rfl⟩
abbrev main_v76 : Ref sig .tc := ⟨.hbm, 133, rfl⟩
abbrev main_c_13 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_c_14 : Ref sig .tc := ⟨.hbm, 138, rfl⟩
abbrev main_v80 : Ref sig .tc := ⟨.hbm, 139, rfl⟩
abbrev main_v81 : Ref sig .tc := ⟨.hbm, 140, rfl⟩
abbrev main_c_15 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_cst_16 : Ref sig .tc := ⟨.hbm, 160, rfl⟩
abbrev main_v100 : Ref sig .tc := ⟨.hbm, 161, rfl⟩
abbrev main_v101 : Ref sig .tc := ⟨.hbm, 162, rfl⟩
abbrev main_cst_17 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_cst_18 : Ref sig .tc := ⟨.hbm, 169, rfl⟩
abbrev main_v107 : Ref sig .tc := ⟨.hbm, 170, rfl⟩
abbrev main_v108 : Ref sig .tc := ⟨.hbm, 171, rfl⟩
abbrev main_cst_19 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_20 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_call1_cst : Ref sig .tc := ⟨.hbm, 194, rfl⟩
abbrev main_call1_v0 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_cst_21 : Ref sig .tc := ⟨.hbm, 203, rfl⟩
abbrev main_v136 : Ref sig .tc := ⟨.hbm, 204, rfl⟩
abbrev main_v137 : Ref sig .tc := ⟨.hbm, 205, rfl⟩
abbrev main_cst_22 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_cst_23 : Ref sig .tc := ⟨.hbm, 212, rfl⟩
abbrev main_v143 : Ref sig .tc := ⟨.hbm, 213, rfl⟩
abbrev main_v144 : Ref sig .tc := ⟨.hbm, 214, rfl⟩
abbrev main_cst_24 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_cst_25 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_cst_26 : Ref sig .tc := ⟨.hbm, 234, rfl⟩
abbrev main_v162 : Ref sig .tc := ⟨.hbm, 235, rfl⟩

abbrev nD : Nat := 1
abbrev τ : Topo := Topo.v7x

variable {F : FTy → Type} [FloatOps F]
-- ==== Proof.Layer.lean ====
/- The body of the kernel written once for every head and every block of ten rows: the pieces of one grid step as functions
of the values it reads. -/
module

public import proofs.«01_k».proof.Proof.Gen.KernelIdeal.Skeleton

@[expose] public section

noncomputable section

namespace Cert.KernelIdeal.Layer

open Cert.KernelIdeal Cert.KernelIdeal.Gen Idealize.ShloMosaic

variable {F : FTy → Type} [FloatOps F] [Named F]

/-- Head `h` is sixteen columns of the 128, starting at `16 * h`. -/
theorem headSlices (h : Fin 8) : S960x128.Slices ![0, 16 * h.val] S960x16 := by
  revert h; decide

/-- Block `g` of the diagonal starts at `(96 * g, 96 * g)` of the 960 by 960 square. -/
theorem blockSlices (g : Fin 10) : S960x960.Slices ![96 * g.val, 96 * g.val] S96x96 := by
  revert g; decide

/-- Row `g` of ten is one slab of the 10 by 96 by 96 array. -/
theorem slabSlices (g : Fin 10) : S10x96x96.Slices ![g.val, 0, 0] S1x96x96 := by
  revert g; decide

/-- A block of the diagonal lies inside the scratch. -/
theorem blockInb (g : Fin 10) : ∀ a, (![96 * g.val, 96 * g.val] : Fin 2 → ℕ) a + S96x96.size a ≤ S960x960.size a := by
  revert g; decide

/-- The columns of head `h`. -/
def headCols (h : Fin 8) (x : FVec F S960x128 .f32) : FVec F S960x16 .f32 :=
  extractStridedSlice S960x16 ![0, 16 * h.val] x (headSlices h)

/-- All 960 by 960 scores of one head. -/
def square (qh kh : FVec F S960x16 .f32) : FVec F S960x960 .f32 :=
  matmul dot_S960x16_S960x16_S960x960_1_1_0_0_n_n none qh kh (constant S960x960 .f32 0x00000000#32)

/-- Block `g` of the diagonal of the square, as a slab. -/
def slab (s : FVec F S960x960 .f32) (g : Fin 10) : FVec F S1x96x96 .f32 :=
  shapeCast S1x96x96 (extractStridedSlice S96x96 ![96 * g.val, 96 * g.val] s (blockSlices g)) shapeCasts_S96x96_S1x96x96

/-- The ten diagonal blocks of the square: the scores of every row with itself. -/
def scores (s : FVec F S960x960 .f32) : FVec F S10x96x96 .f32 :=
  concatenate S10x96x96 0 [⟨S1x96x96, slab s 0⟩, ⟨S1x96x96, slab s 1⟩, ⟨S1x96x96, slab s 2⟩, ⟨S1x96x96, slab s 3⟩,
    ⟨S1x96x96, slab s 4⟩, ⟨S1x96x96, slab s 5⟩, ⟨S1x96x96, slab s 6⟩, ⟨S1x96x96, slab s 7⟩, ⟨S1x96x96, slab s 8⟩,
    ⟨S1x96x96, slab s 9⟩]
    concatenates_S1x96x96_S1x96x96_S1x96x96_S1x96x96_S1x96x96_S1x96x96_S1x96x96_S1x96x96_S1x96x96_S1x96x96_S10x96x96_d0

/-- The sparsity measure of every query. -/
def measure (s : FVec F S10x96x96 .f32) (mask cnt : FVec F S96x96 .f32) : FVec F S10x96 .f32 :=
  subf
    (multiReduction .maximumf [2] S10x96
      (select
        (broadcastTo S10x96x96
          (shapeCast S1x96x96 (cmpf .ogt mask (broadcast S96x96 (Scalar.ofBits .f32 0x00000000#32))) shapeCasts_S96x96_S1x96x96)
          broadcasts_S1x96x96_S10x96x96)
        s (broadcast S10x96x96 (Named.named κ "mask" 0xF149F2CA#32 : F .f32)))
      0xFF800000#32 reduces_S10x96x96_S10x96 (.inl rfl) rfl)
    (mulf
      (multiReduction .add [2] S10x96
        (mulf s (broadcastTo S10x96x96 (shapeCast S1x96x96 cnt shapeCasts_S96x96_S1x96x96) broadcasts_S1x96x96_S10x96x96))
        0x00000000#32 reduces_S10x96x96_S10x96 (.inl rfl) rfl)
      (broadcast S10x96 (Named.named κ "r96" 0x3C2AAAAB#32 : F .f32)))

/-- The fifteen queries kept. -/
def picked (m : FVec F S10x96 .f32) : IVec S10x96 1 :=
  k0_pay13 (iota .tc S96x96 32 [0] iota_S96x96_d0_w32) (iota .tc S96x96 32 [1] iota_S96x96_d1_w32) m
    (shapeCast S10x1x96 m shapeCasts_S10x96_S10x1x96) (shapeCast S10x96x1 m shapeCasts_S10x96_S10x96x1)

/-- What a row writes to its diagonal block: its slab of the softmax. -/
def block (p : FVec F S10x96x96 .f32) (g : Fin 10) : FVec F S96x96 .f32 :=
  shapeCast S96x96 (shapeCast S96x96 (extractStridedSlice S1x96x96 ![g.val, 0, 0] p (slabSlices g)) shapeCasts_S1x96x96_S96x96)
    shapeCasts_S96x96_S96x96

/-- The write of one diagonal block. -/
def piece (p : FVec F S10x96x96 .f32) (g : Fin 10) : View.Piece (Elt F) S960x960 .f32 :=
  ⟨Rect.unit ![96 * g.val, 96 * g.val] S96x96.size (blockInb g), block p g⟩

/-- The ten writes of one head, the last first, over the earlier writes `L`. -/
def pieces (p : FVec F S10x96x96 .f32) (L : List (View.Piece (Elt F) S960x960 .f32)) : List (View.Piece (Elt F) S960x960 .f32) :=
  piece p 9 :: piece p 8 :: piece p 7 :: piece p 6 :: piece p 5 :: piece p 4 :: piece p 3 :: piece p 2 :: piece p 1 ::
    piece p 0 :: L

/-- The context of all heads, side by side. -/
def context (c : Fin 8 → FVec F S10x96x16 .f32) : FVec F S960x128 .f32 :=
  shapeCast S960x128
    (concatenate S10x96x128 2 [⟨S10x96x16, c 0⟩, ⟨S10x96x16, c 1⟩, ⟨S10x96x16, c 2⟩, ⟨S10x96x16, c 3⟩, ⟨S10x96x16, c 4⟩,
      ⟨S10x96x16, c 5⟩, ⟨S10x96x16, c 6⟩, ⟨S10x96x16, c 7⟩]
      concatenates_S10x96x16_S10x96x16_S10x96x16_S10x96x16_S10x96x16_S10x96x16_S10x96x16_S10x96x16_S10x96x128_d2)
    shapeCasts_S10x96x128_S960x128

/-- The values one grid step reads: ten rows and the parameters. -/
structure Args (F : FTy → Type) where
  x : Vec F S1x10x96 .f32
  ew : Vec F S1x128 .f32
  eb : Vec F S1x128 .f32
  wq : Vec F S128x128 .f32
  bq : Vec F S1x128 .f32
  wk : Vec F S128x128 .f32
  bk : Vec F S1x128 .f32
  wv : Vec F S128x128 .f32
  bv : Vec F S1x128 .f32
  wo : Vec F S128x128 .f32
  bo : Vec F S1x128 .f32
  w1 : Vec F S128x256 .f32
  b1 : Vec F S1x256 .f32
  w2 : Vec F S256x128 .f32
  b2 : Vec F S1x128 .f32
  g1 : Vec F S1x128 .f32
  be1 : Vec F S1x128 .f32
  g2 : Vec F S1x128 .f32
  be2 : Vec F S1x128 .f32
  mask : Vec F S96x96 .f32
  cnt : Vec F S96x96 .f32

namespace Args

variable (a : Args F)

/-- The embedded rows. -/
def hid : FVec F S960x128 .f32 := k0_pay3 a.x a.ew a.eb
/-- Queries, keys and values of the ten rows. -/
def q : FVec F S960x128 .f32 := k0_pay4 a.x a.ew a.eb a.wq a.bq
def k : FVec F S960x128 .f32 := k0_pay5 a.x a.ew a.eb a.wk a.bk
def v : FVec F S960x128 .f32 := k0_pay7 (k0_pay6 a.x a.ew a.eb a.wv) a.bv

/-- The scores of head `h`. -/
def sc (h : Fin 8) : FVec F S10x96x96 .f32 := scores (square (headCols h a.q) (headCols h a.k))
/-- The softmax of head `h`. -/
def soft (h : Fin 8) : FVec F S10x96x96 .f32 := k0_pay14 (a.sc h)
/-- The measure of head `h`. -/
def ms (h : Fin 8) : FVec F S10x96 .f32 := measure (a.sc h) a.mask a.cnt

/-- The first `n` heads' writes over `L`. -/
def writes (L : List (View.Piece (Elt F) S960x960 .f32)) : ℕ → List (View.Piece (Elt F) S960x960 .f32)
  | 0 => L
  | n + 1 => if h : n < 8 then pieces (a.soft ⟨n, h⟩) (writes L n) else writes L n

/-- The context of head `h` out of the scratch it reads. -/
def ctx (scr : Fin 8 → Vec F S960x960 .f32) (h : Fin 8) : FVec F S10x96x16 .f32 :=
  k0_pay26 (headCols h a.v) (picked (a.ms h)) (scr h)

/-- The first layer's residual sum and normalisation. -/
def mid (scr : Fin 8 → Vec F S960x960 .f32) : FVec F S960x128 .f32 :=
  k0_pay171 a.hid (context (a.ctx scr)) (k0_pay170 a.wo) (constant S960x128 .f32 0x00000000#32) a.bo a.g1 a.be1

/-- What one grid step adds to the output block. -/
def contrib (scr : Fin 8 → Vec F S960x960 .f32) : FVec F S128x96 .f32 :=
  k0_pay173 (a.mid scr)
    (k0_pay172 a.hid (context (a.ctx scr)) (k0_pay170 a.wo) (constant S960x128 .f32 0x00000000#32) a.bo a.g1 a.be1 a.w1 a.b1)
    a.w2 a.b2 a.g2 a.be2

end Args

end Cert.KernelIdeal.Layer
-- ==== Proof.Body.lean ====
/- What one run of the kernel's body leaves, in its three cases, read off the executed body. -/
module

public import proofs.«01_k».proof.Proof.Gen.KernelIdeal.Frame
public import proofs.«01_k».proof.Proof.Layer

@[expose] public section

set_option maxRecDepth 65536
set_option maxHeartbeats 4000000

noncomputable section

namespace Cert.KernelIdeal.Layer

open Cert.KernelIdeal Cert.KernelIdeal.Gen Idealize.ShloMosaic Idealize.ShloMosaic.TcCoe Idealize.SL.Sem

variable {F : FTy → Type} [FloatOps F] [Named F]
variable (c : Dev nD) (i : grid0.Coords) (arg1 : Memref sig .tc .vmem S1x10x96 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S96x96 .f32) (harg20 : arg20.IsWhole) (arg21 : Memref sig .tc .vmem S96x96 .f32) (harg21 : arg21.IsWhole) (arg22 : Memref sig .tc .vmem S1x128x96 .f32) (harg22 : arg22.IsWhole) (arg23 : Memref sig .tc .vmem S960x960 .f32) (harg23 : arg23.IsWhole)
variable (x0 : Vec F S1x10x96 .f32) (x1 : Vec F S1x128 .f32) (x2 : Vec F S1x128 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x256 .f32) (x12 : Vec F S1x256 .f32) (x13 : Vec F S256x128 .f32) (x14 : Vec F S1x128 .f32) (x15 : Vec F S1x128 .f32) (x16 : Vec F S1x128 .f32) (x17 : Vec F S1x128 .f32) (x18 : Vec F S1x128 .f32) (x19 : Vec F S96x96 .f32) (x20 : Vec F S96x96 .f32)

/-- The values the body reads, through its windows. -/
def reads : Args F :=
  Args.mk (View.readAt (Elt F) arg1.view (Rect.unit (s := S1x10x96) ![0, 0, 0] S1x10x96.size inb_S1x10x96_S1x10x96_0_0_0).toLoadRect (harg1.unread x0))
    (View.readAt (Elt F) arg2.view (Rect.unit (s := S1x128) ![0, 0] S1x128.size inb_S1x128_S1x128_0_0).toLoadRect (harg2.unread x1))
    (View.readAt (Elt F) arg3.view (Rect.unit (s := S1x128) ![0, 0] S1x128.size inb_S1x128_S1x128_0_0).toLoadRect (harg3.unread x2))
    (View.readAt (Elt F) arg4.view (Rect.unit (s := S128x128) ![0, 0] S128x128.size inb_S128x128_S128x128_0_0).toLoadRect (harg4.unread x3))
    (View.readAt (Elt F) arg5.view (Rect.unit (s := S1x128) ![0, 0] S1x128.size inb_S1x128_S1x128_0_0).toLoadRect (harg5.unread x4))
    (View.readAt (Elt F) arg6.view (Rect.unit (s := S128x128) ![0, 0] S128x128.size inb_S128x128_S128x128_0_0).toLoadRect (harg6.unread x5))
    (View.readAt (Elt F) arg7.view (Rect.unit (s := S1x128) ![0, 0] S1x128.size inb_S1x128_S1x128_0_0).toLoadRect (harg7.unread x6))
    (View.readAt (Elt F) arg8.view (Rect.unit (s := S128x128) ![0, 0] S128x128.size inb_S128x128_S128x128_0_0).toLoadRect (harg8.unread x7))
    (View.readAt (Elt F) arg9.view (Rect.unit (s := S1x128) ![0, 0] S1x128.size inb_S1x128_S1x128_0_0).toLoadRect (harg9.unread x8))
    (View.readAt (Elt F) arg10.view (Rect.unit (s := S128x128) ![0, 0] S128x128.size inb_S128x128_S128x128_0_0).toLoadRect (harg10.unread x9))
    (View.readAt (Elt F) arg11.view (Rect.unit (s := S1x128) ![0, 0] S1x128.size inb_S1x128_S1x128_0_0).toLoadRect (harg11.unread x10))
    (View.readAt (Elt F) arg12.view (Rect.unit (s := S128x256) ![0, 0] S128x256.size inb_S128x256_S128x256_0_0).toLoadRect (harg12.unread x11))
    (View.readAt (Elt F) arg13.view (Rect.unit (s := S1x256) ![0, 0] S1x256.size inb_S1x256_S1x256_0_0).toLoadRect (harg13.unread x12))
    (View.readAt (Elt F) arg14.view (Rect.unit (s := S256x128) ![0, 0] S256x128.size inb_S256x128_S256x128_0_0).toLoadRect (harg14.unread x13))
    (View.readAt (Elt F) arg15.view (Rect.unit (s := S1x128) ![0, 0] S1x128.size inb_S1x128_S1x128_0_0).toLoadRect (harg15.unread x14))
    (View.readAt (Elt F) arg16.view (Rect.unit (s := S1x128) ![0, 0] S1x128.size inb_S1x128_S1x128_0_0).toLoadRect (harg16.unread x15))
    (View.readAt (Elt F) arg17.view (Rect.unit (s := S1x128) ![0, 0] S1x128.size inb_S1x128_S1x128_0_0).toLoadRect (harg17.unread x16))
    (View.readAt (Elt F) arg18.view (Rect.unit (s := S1x128) ![0, 0] S1x128.size inb_S1x128_S1x128_0_0).toLoadRect (harg18.unread x17))
    (View.readAt (Elt F) arg19.view (Rect.unit (s := S1x128) ![0, 0] S1x128.size inb_S1x128_S1x128_0_0).toLoadRect (harg19.unread x18))
    (View.readAt (Elt F) arg20.view (Rect.unit (s := S96x96) ![0, 0] S96x96.size inb_S96x96_S96x96_0_0).toLoadRect (harg20.unread x19))
    (View.readAt (Elt F) arg21.view (Rect.unit (s := S96x96) ![0, 0] S96x96.size inb_S96x96_S96x96_0_0).toLoadRect (harg21.unread x20))

/-- The whole scratch. -/
abbrev wholeScr : Rect S960x960 := Rect.unit (s := S960x960) ![0, 0] S960x960.size inb_S960x960_S960x960_0_0

/-- The write that clears the scratch. -/
def clear : View.Piece (Elt F) S960x960 .f32 := ⟨wholeScr, k0_pay2⟩

/-- Case A: the scratch is written by the eight heads in turn. -/
theorem scratch_A (hc0 : cond0_0 i) (hc1 : cond0_1 i) (hc2 : ¬cond0_2 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).2.1 = (reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20).writes [clear] 8 := by
  rfl

/-- Case A: the output block is written once. -/
theorem output_A (hc0 : cond0_0 i) (hc1 : cond0_1 i) (hc2 : ¬cond0_2 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20).1 = [⟨Rect.unit (s := S1x128x96) ![0, 0, 0] S1x128x96.size inb_S1x128x96_S1x128x96_0_0_0,
      k0_pay174 ((reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20).contrib fun h =>
          View.readAt (Elt F) arg23.view wholeScr.toLoadRect (arg23.view.writes (Elt F) arg23.view.junk
            ((reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20).writes [clear] (h.val + 1))))⟩] := by
  rfl

/-- Case B: the scratch is written by the eight heads in turn. -/
theorem scratch_B (hc0 : ¬cond0_0 i) (hc1 : ¬cond0_1 i) (hc2 : cond0_2 i) (xo21 : Vec F S1x128x96 .f32) (xs0 : Vec F S960x960 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20 xo21 xs0).2.1 = (reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20).writes [] 8 := by
  rfl

/-- Case B: the output block is written once. -/
theorem output_B (hc0 : ¬cond0_0 i) (hc1 : ¬cond0_1 i) (hc2 : cond0_2 i) (xo21 : Vec F S1x128x96 .f32) (xs0 : Vec F S960x960 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20 xo21 xs0).1 = [⟨Rect.unit (s := S1x128x96) ![0, 0, 0] S1x128x96.size inb_S1x128x96_S1x128x96_0_0_0,
      k0_pay1 ((reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20).contrib fun h =>
          View.readAt (Elt F) arg23.view wholeScr.toLoadRect (arg23.view.writes (Elt F) (harg23.unread xs0)
            ((reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20).writes [] (h.val + 1))))
        (View.readAt (Elt F) arg22.view (Rect.unit (s := S1x128x96) ![0, 0, 0] S1x128x96.size inb_S1x128x96_S1x128x96_0_0_0).toLoadRect (harg22.unread xo21))⟩] := by
  rfl

/-- Case C: the scratch is written by the eight heads in turn. -/
theorem scratch_C (hc0 : ¬cond0_0 i) (hc1 : cond0_1 i) (hc2 : ¬cond0_2 i) (xs0 : Vec F S960x960 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20 xs0).2.1 = (reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20).writes [] 8 := by
  rfl

/-- Case C: the output block is written once. -/
theorem output_C (hc0 : ¬cond0_0 i) (hc1 : cond0_1 i) (hc2 : ¬cond0_2 i) (xs0 : Vec F S960x960 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20 xs0).1 = [⟨Rect.unit (s := S1x128x96) ![0, 0, 0] S1x128x96.size inb_S1x128x96_S1x128x96_0_0_0,
      k0_pay174 ((reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20).contrib fun h =>
          View.readAt (Elt F) arg23.view wholeScr.toLoadRect (arg23.view.writes (Elt F) (harg23.unread xs0)
            ((reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20).writes [] (h.val + 1))))⟩] := by
  rfl

end Cert.KernelIdeal.Layer
-- ==== Proof.Scratch960.lean ====
/- The scratch: ten writes of a head leave the head's ten softmax blocks on the diagonal and nothing else changed. -/
module

public import proofs.«01_k».proof.Proof.Layer
public import Idealize.ShloMosaic.Lib.Pointwise
public import Idealize.ShloMosaic.Lib.WritesUnit

@[expose] public section

set_option maxRecDepth 16384

noncomputable section

namespace Cert.KernelIdeal.Layer

open Cert.KernelIdeal Cert.KernelIdeal.Gen Idealize.ShloMosaic

variable {F : FTy → Type} [FloatOps F] [Named F]
variable {sig : RefSig} {κ : Kind} {sp : Space} (v : View sig κ sp S960x960 .f32) (f : v.ty.Contents (Elt F))

/-- A block as the softmax's slab. -/
theorem block_at (p : FVec F S10x96x96 .f32) (g : Fin 10) (r s : Fin 96) : block p g (ix2 r s) = p (ix3 g r s) := by
  pointwise [block]

/-- One write: its block inside its square, the earlier contents elsewhere. -/
theorem read_piece (p : FVec F S10x96x96 .f32) (g : Fin 10) (L : List (View.Piece (Elt F) S960x960 .f32)) (r s : Fin 960) :
    v.read (Elt F) (v.writes (Elt F) f (piece p g :: L)) (ix2 r s)
      = if r.val / 96 = g.val ∧ s.val / 96 = g.val then
          p (ix3 g ⟨r.val % 96, Nat.mod_lt _ (by decide)⟩ ⟨s.val % 96, Nat.mod_lt _ (by decide)⟩)
        else v.read (Elt F) (v.writes (Elt F) f L) (ix2 r s) := by
  split
  · rename_i h
    refine (View.read_writes_cons_unit_of_mem v f (blockInb g) (block p g) L (ix2 r s)
      (ix2 (⟨r.val % 96, Nat.mod_lt _ (by decide)⟩ : Fin 96) (⟨s.val % 96, Nat.mod_lt _ (by decide)⟩ : Fin 96)) rfl ?_).trans
      (block_at p g _ _)
    intro a
    match a with
    | ⟨0, _⟩ => show r.val = 96 * g.val + r.val % 96; omega
    | ⟨1, _⟩ => show s.val = 96 * g.val + s.val % 96; omega
  · rename_i h
    by_cases hr : r.val / 96 = g.val
    · refine View.read_writes_cons_unit_of_not_mem v f (blockInb g) (block p g) L (ix2 r s) rfl (1 : Fin 2) ?_
      show s.val < 96 * g.val ∨ 96 * g.val + 96 ≤ s.val
      omega
    · refine View.read_writes_cons_unit_of_not_mem v f (blockInb g) (block p g) L (ix2 r s) rfl (0 : Fin 2) ?_
      show r.val < 96 * g.val ∨ 96 * g.val + 96 ≤ r.val
      omega

/-- A head's ten writes: the softmax on the ten diagonal squares, the earlier contents off them. -/
theorem read_pieces (p : FVec F S10x96x96 .f32) (L : List (View.Piece (Elt F) S960x960 .f32)) (r s : Fin 960) :
    v.read (Elt F) (v.writes (Elt F) f (pieces p L)) (ix2 r s)
      = if r.val / 96 = s.val / 96 then
          p (ix3 ⟨r.val / 96, by omega⟩ ⟨r.val % 96, Nat.mod_lt _ (by decide)⟩ ⟨s.val % 96, Nat.mod_lt _ (by decide)⟩)
        else v.read (Elt F) (v.writes (Elt F) f L) (ix2 r s) := by
  unfold pieces
  simp only [read_piece]
  by_cases hd : r.val / 96 = s.val / 96
  · rw [if_pos hd]
    have hg : r.val / 96 < 10 := by omega
    obtain ⟨g, hg'⟩ : ∃ g : Fin 10, (⟨r.val / 96, hg⟩ : Fin 10) = g := ⟨_, rfl⟩
    have hv : r.val / 96 = g.val := congrArg Fin.val hg'
    simp only [hg', ← hd, hv]
    fin_cases g <;> simp
  · rw [if_neg hd]
    have no : ∀ n : ℕ, ¬ (r.val / 96 = n ∧ s.val / 96 = n) := fun n h => hd (h.1.trans h.2.symm)
    simp only [no, if_false]

/-- The contents with a head's softmax on the diagonal squares and zero off them, entry by entry. -/
def spreadAt (p : FVec F S10x96x96 .f32) (r s : Fin 960) : F .f32 :=
  if r.val / 96 = s.val / 96 then
    p (ix3 ⟨r.val / 96, by omega⟩ ⟨r.val % 96, Nat.mod_lt _ (by decide)⟩ ⟨s.val % 96, Nat.mod_lt _ (by decide)⟩)
  else Scalar.ofBits .f32 0x00000000#32

/-- The same as an array. -/
def spread (p : FVec F S10x96x96 .f32) : Vec F S960x960 .f32 := fun y => spreadAt p (y 0) (y 1)

/-- Zero off the diagonal squares. -/
def OffZero (x : Vec F S960x960 .f32) : Prop :=
  ∀ r s : Fin 960, r.val / 96 ≠ s.val / 96 → x (ix2 r s) = (Scalar.ofBits .f32 0x00000000#32 : F .f32)

/-- Over contents that are zero off the diagonal squares, a head's writes leave exactly its softmax spread out. -/
theorem read_spread (p : FVec F S10x96x96 .f32) (L : List (View.Piece (Elt F) S960x960 .f32))
    (h : OffZero (v.read (Elt F) (v.writes (Elt F) f L))) :
    v.read (Elt F) (v.writes (Elt F) f (pieces p L)) = spread p := by
  funext y
  obtain ⟨r, s, rfl⟩ : ∃ (r s : Fin 960), y = ix2 r s := ⟨y 0, y 1, eq_ix2 y⟩
  rw [read_pieces]
  show _ = spreadAt p r s
  unfold spreadAt
  by_cases hd : r.val / 96 = s.val / 96
  · rw [if_pos hd, if_pos hd]
  · rw [if_neg hd, if_neg hd]; exact h r s hd

/-- What is spread out is zero off the diagonal squares. -/
theorem offZero_spread (p : FVec F S10x96x96 .f32) : OffZero (spread p) := fun r s h => by
  show spreadAt p r s = _
  exact if_neg h

/-- After the writes of the first `n + 1` heads the scratch holds the softmax of head `n` spread out. -/
theorem read_writes_heads (a : Args F) (L : List (View.Piece (Elt F) S960x960 .f32))
    (h : OffZero (v.read (Elt F) (v.writes (Elt F) f L))) (n : ℕ) (hn : n < 8) :
    v.read (Elt F) (v.writes (Elt F) f (a.writes L (n + 1))) = spread (a.soft ⟨n, hn⟩) := by
  have step : ∀ n : ℕ, n ≤ 8 → OffZero (v.read (Elt F) (v.writes (Elt F) f (a.writes L n))) := by
    intro n
    induction n with
    | zero => exact fun _ => h
    | succ n ih =>
      intro hn
      have hn' : n < 8 := hn
      rw [Args.writes, dif_pos hn', read_spread v f _ _ (ih hn'.le)]
      exact offZero_spread _
  rw [Args.writes, dif_pos hn]
  exact read_spread v f _ _ (step n hn.le)

end Cert.KernelIdeal.Layer
-- ==== Proof.Step.lean ====
/- What one grid step leaves: the output block's new contents, and a scratch that is zero off its diagonal squares. -/
module

public import proofs.«01_k».proof.Proof.Body
public import proofs.«01_k».proof.Proof.Scratch960
public import Idealize.ShloMosaic.Lib.VecWindow
public import Idealize.ShloMosaic.Lib.WholeRead

@[expose] public section

set_option maxRecDepth 65536

noncomputable section

namespace Cert.KernelIdeal.Layer

open Cert.KernelIdeal Cert.KernelIdeal.Gen Idealize.ShloMosaic Idealize.ShloMosaic.TcCoe Idealize.SL.Sem

variable {F : FTy → Type} [FloatOps F] [Named F]

/-- A whole load of a window held at `x` reads `x`. -/
theorem load_whole {sp : Space} {s : Shape} {e : EltTy} (mr : Memref sig .tc sp s e) (h : mr.IsWhole) (x : Vec F s e)
    {off : Fin s.rank → ℕ} (inb : ∀ a, off a + s.size a ≤ s.size a) :
    View.readAt (Elt F) mr.view (Rect.unit off s.size inb).toLoadRect (h.unread x) = x :=
  (View.readAt_full mr.view _ inb).trans (h.read_unread x)

section Heads

variable {sp : Space} (v : View sig .tc sp S960x960 .f32) (f : v.ty.Contents (Elt F))

/-- The cleared scratch is zero everywhere. -/
theorem offZero_clear (L : List (View.Piece (Elt F) S960x960 .f32)) : OffZero (v.read (Elt F) (v.writes (Elt F) f (clear :: L))) := by
  intro r s _
  exact (congrFun (View.read_writes_full v f _ k0_pay2 L) (ix2 r s)).trans (by pointwise [k0_pay2])

/-- What the eight heads read back from the scratch: each its own softmax, spread out. -/
theorem heads_read (a : Args F) (L : List (View.Piece (Elt F) S960x960 .f32)) (h : OffZero (v.read (Elt F) (v.writes (Elt F) f L))) :
    (fun n : Fin 8 => View.readAt (Elt F) v wholeScr.toLoadRect (v.writes (Elt F) f (a.writes L (n.val + 1))))
      = fun n => spread (a.soft n) := by
  funext n
  exact (View.readAt_full v _ _).trans (read_writes_heads v f a L h n.val n.isLt)

/-- After the eight heads the scratch is again zero off its diagonal squares. -/
theorem heads_left (a : Args F) (L : List (View.Piece (Elt F) S960x960 .f32)) (h : OffZero (v.read (Elt F) (v.writes (Elt F) f L))) :
    OffZero (v.read (Elt F) (v.writes (Elt F) f (a.writes L 8))) :=
  (read_writes_heads v f a L h 7 (by decide)).symm ▸ offZero_spread _

end Heads

variable (c : Dev nD) (i : grid0.Coords) (arg1 : Memref sig .tc .vmem S1x10x96 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x256 .f32) (harg12 : arg12.IsWhole) (arg13 : Memref sig .tc .vmem S1x256 .f32) (harg13 : arg13.IsWhole) (arg14 : Memref sig .tc .vmem S256x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S96x96 .f32) (harg20 : arg20.IsWhole) (arg21 : Memref sig .tc .vmem S96x96 .f32) (harg21 : arg21.IsWhole) (arg22 : Memref sig .tc .vmem S1x128x96 .f32) (harg22 : arg22.IsWhole) (arg23 : Memref sig .tc .vmem S960x960 .f32) (harg23 : arg23.IsWhole)
variable (x0 : Vec F S1x10x96 .f32) (x1 : Vec F S1x128 .f32) (x2 : Vec F S1x128 .f32) (x3 : Vec F S128x128 .f32) (x4 : Vec F S1x128 .f32) (x5 : Vec F S128x128 .f32) (x6 : Vec F S1x128 .f32) (x7 : Vec F S128x128 .f32) (x8 : Vec F S1x128 .f32) (x9 : Vec F S128x128 .f32) (x10 : Vec F S1x128 .f32) (x11 : Vec F S128x256 .f32) (x12 : Vec F S1x256 .f32) (x13 : Vec F S256x128 .f32) (x14 : Vec F S1x128 .f32) (x15 : Vec F S1x128 .f32) (x16 : Vec F S1x128 .f32) (x17 : Vec F S1x128 .f32) (x18 : Vec F S1x128 .f32) (x19 : Vec F S96x96 .f32) (x20 : Vec F S96x96 .f32)

/-- The body reads its arguments. -/
theorem reads_eq : reads arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 x20 = (Args.mk x0 x1 x2 x3 x4 x5 x6 x7 x8 x9 x10 x11 x12 x13 x14 x15 x16 x17 x18 x19 x20 : Args F) := by
  unfold reads
  congr 1 <;> exact load_whole _ _ _ _

/-- Case A: the output block after the step. -/
theorem out_A (hc0 : cond0_0 i) (hc1 : cond0_1 i) (hc2 : ¬cond0_2 i) :
    out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20 = k0_pay174 ((Args.mk x0 x1 x2 x3 x4 x5 x6 x7 x8 x9 x10 x11 x12 x13 x14 x15 x16 x17 x18 x19 x20 : Args F).contrib fun h => spread ((Args.mk x0 x1 x2 x3 x4 x5 x6 x7 x8 x9 x10 x11 x12 x13 x14 x15 x16 x17 x18 x19 x20 : Args F).soft h)) := by
  unfold out0_A_21
  rw [output_A, reads_eq, heads_read arg23.view arg23.view.junk _ [clear] (offZero_clear _ _ [])]
  exact View.read_writes_full _ _ _ _ _

/-- Case A: the scratch after the step. -/
theorem sout_A (hc0 : cond0_0 i) (hc1 : cond0_1 i) (hc2 : ¬cond0_2 i) :
    OffZero (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20) := by
  unfold sout0_A_0
  rw [scratch_A, reads_eq]
  exact heads_left _ _ _ [clear] (offZero_clear _ _ [])

/-- Case B: the output block after the step. -/
theorem out_B (hc0 : ¬cond0_0 i) (hc1 : ¬cond0_1 i) (hc2 : cond0_2 i) (xo21 : Vec F S1x128x96 .f32) (xs0 : Vec F S960x960 .f32) (hz : OffZero xs0) :
    out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20 xo21 xs0 = k0_pay1 ((Args.mk x0 x1 x2 x3 x4 x5 x6 x7 x8 x9 x10 x11 x12 x13 x14 x15 x16 x17 x18 x19 x20 : Args F).contrib fun h => spread ((Args.mk x0 x1 x2 x3 x4 x5 x6 x7 x8 x9 x10 x11 x12 x13 x14 x15 x16 x17 x18 x19 x20 : Args F).soft h)) xo21 := by
  unfold out0_B_21
  rw [output_B, reads_eq, heads_read arg23.view (harg23.unread xs0) _ [] ((show OffZero (arg23.view.read (Elt F) (harg23.unread xs0)) from (harg23.read_unread xs0).symm ▸ hz)), load_whole]
  exact View.read_writes_full _ _ _ _ _

/-- Case B: the scratch after the step. -/
theorem sout_B (hc0 : ¬cond0_0 i) (hc1 : ¬cond0_1 i) (hc2 : cond0_2 i) (xo21 : Vec F S1x128x96 .f32) (xs0 : Vec F S960x960 .f32) (hz : OffZero xs0) :
    OffZero (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20 xo21 xs0) := by
  unfold sout0_B_0
  rw [scratch_B, reads_eq]
  exact heads_left _ (harg23.unread xs0) _ [] ((show OffZero (arg23.view.read (Elt F) (harg23.unread xs0)) from (harg23.read_unread xs0).symm ▸ hz))

/-- Case C: the output block after the step. -/
theorem out_C (hc0 : ¬cond0_0 i) (hc1 : cond0_1 i) (hc2 : ¬cond0_2 i) (xs0 : Vec F S960x960 .f32) (hz : OffZero xs0) :
    out0_C_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20 xs0 = k0_pay174 ((Args.mk x0 x1 x2 x3 x4 x5 x6 x7 x8 x9 x10 x11 x12 x13 x14 x15 x16 x17 x18 x19 x20 : Args F).contrib fun h => spread ((Args.mk x0 x1 x2 x3 x4 x5 x6 x7 x8 x9 x10 x11 x12 x13 x14 x15 x16 x17 x18 x19 x20 : Args F).soft h)) := by
  unfold out0_C_21
  rw [output_C, reads_eq, heads_read arg23.view (harg23.unread xs0) _ [] ((show OffZero (arg23.view.read (Elt F) (harg23.unread xs0)) from (harg23.read_unread xs0).symm ▸ hz))]
  exact View.read_writes_full _ _ _ _ _

/-- Case C: the scratch after the step. -/
theorem sout_C (hc0 : ¬cond0_0 i) (hc1 : cond0_1 i) (hc2 : ¬cond0_2 i) (xs0 : Vec F S960x960 .f32) (hz : OffZero xs0) :
    OffZero (sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 x11 x12 x13 x14 x15 x16 x17 x18 x19 x20 xs0) := by
  unfold sout0_C_0
  rw [scratch_C, reads_eq]
  exact heads_left _ (harg23.unread xs0) _ [] ((show OffZero (arg23.view.read (Elt F) (harg23.unread xs0)) from (harg23.read_unread xs0).symm ▸ hz))

end Cert.KernelIdeal.Layer
-- ==== Proof.Fold.lean ====
/- The accumulation: a block of the output is the sum of what its twenty-five steps add. -/
module

public import proofs.«01_k».proof.Proof.Gen.KernelIdeal.Value
public import proofs.«01_k».proof.Proof.Step

@[expose] public section

set_option maxRecDepth 65536

noncomputable section

namespace Cert.KernelIdeal.Layer

open Cert.KernelIdeal Cert.KernelIdeal.Gen Cert.KernelIdeal.Value Idealize.ShloMosaic Idealize.ShloMosaic.TcCoe Idealize.SL.Sem

section General

variable {F : FTy → Type} [FloatOps F] [Named F]
variable (m : (ℓ : Loc nD τ sig) → Buf (Elt F) ℓ)

/-- What step `t` of the grid reads. -/
def argsAt (c : Dev nD) (t : Fin cfg0.N) : Args F :=
  Args.mk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)

/-- What step `t` adds to its output block. -/
def added (c : Dev nD) (t : Fin cfg0.N) : FVec F S128x96 .f32 :=
  (argsAt m c t).contrib fun h => spread ((argsAt m c t).soft h)

/-- A step that opens a block leaves what it adds. -/
theorem step_open (c : Dev nD) (t : Fin cfg0.N) (acc : Vec F S1x128x96 .f32 × Vec F S960x960 .f32) (h1 : t.val % 25 = 0)
    (hz : t.val = 0 ∨ OffZero acc.2) :
    (stAt0 m c t.val t.isLt acc).1 = k0_pay174 (added m c t) ∧ OffZero (stAt0 m c t.val t.isLt acc).2 := by
  have hN : t.val < 100 := lt_of_lt_of_eq t.isLt (show cfg0.N = 100 from N_0)
  by_cases h0 : t.val % 100 = 0
  · rw [stAt0_A m c t acc h0 h1 (not_not_intro h1)]
    dsimp only
    refine ⟨?_, ?_⟩
    · exact out_A ..
    · exact sout_A _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  · rw [stAt0_C m c t acc h0 h1 (not_not_intro h1)]
    have hz' : OffZero acc.2 := hz.resolve_left (by omega)
    dsimp only
    refine ⟨?_, ?_⟩
    · exact out_C (hz := hz') ..
    · exact sout_C _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hz'

/-- Any other step leaves what was there plus what it adds. -/
theorem step_next (c : Dev nD) (t : Fin cfg0.N) (acc : Vec F S1x128x96 .f32 × Vec F S960x960 .f32) (h1 : ¬ t.val % 25 = 0)
    (hz : OffZero acc.2) :
    (stAt0 m c t.val t.isLt acc).1 = k0_pay1 (added m c t) acc.1 ∧ OffZero (stAt0 m c t.val t.isLt acc).2 := by
  have h0 : ¬ t.val % 100 = 0 := by omega
  rw [stAt0_B m c t acc h0 h1 h1]
  dsimp only
  refine ⟨?_, ?_⟩
  · exact out_B (hz := hz) ..
  · exact sout_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hz

/-- The fold up to step `n`. -/
def upTo (c : Dev nD) (n : ℕ) (h : n < cfg0.N) : Vec F S1x128x96 .f32 × Vec F S960x960 .f32 :=
  Pipeline.accAt (fun n h => stAt0 m c n h junk0) (stAt0 m c) 0 n (by omega)

end General

variable (m : (ℓ : Loc nD τ sig) → Buf (Elt Ideal) ℓ)

theorem open_at (x : FVec Ideal S128x96 .f32) (r : Fin 128) (s : Fin 96) : k0_pay174 x (ix3 0 r s) = x (ix2 r s) := by
  pointwise [k0_pay174]

theorem next_at (x : FVec Ideal S128x96 .f32) (y : FVec Ideal S1x128x96 .f32) (r : Fin 128) (s : Fin 96) :
    k0_pay1 x y (ix3 0 r s) = (y (ix3 0 r s) + x (ix2 r s) : EReal) := by
  pointwise [k0_pay1]

theorem upTo_zero (c : Dev nD) (h : 0 < cfg0.N) : upTo m c 0 h = stAt0 m c 0 h junk0 := rfl

theorem upTo_succ (c : Dev nD) (n : ℕ) (h : n + 1 < cfg0.N) :
    upTo m c (n + 1) h = stAt0 m c (n + 1) h (upTo m c n (Nat.lt_of_succ_lt h)) := by
  have gen : ∀ k (hk : 0 + (n + 1) < cfg0.N) (hk' : k < cfg0.N), k = 0 + (n + 1) →
      Pipeline.accAt (fun n h => stAt0 m c n h junk0) (stAt0 m c) 0 (n + 1) hk = stAt0 m c k hk' (upTo m c n (Nat.lt_of_succ_lt h)) := by
    intro k hk hk' e
    subst e
    rfl
  exact gen (n + 1) _ h (by omega)

/-- What step `n` adds at an entry of the block (zero past the last step). -/
def addedAt (c : Dev nD) (r : Fin 128) (s : Fin 96) (n : ℕ) : EReal :=
  if h : n < cfg0.N then added m c ⟨n, h⟩ (ix2 r s) else 0

theorem addedAt_eq (c : Dev nD) (r : Fin 128) (s : Fin 96) (n : ℕ) (h : n < cfg0.N) :
    addedAt m c r s n = added m c ⟨n, h⟩ (ix2 r s) := dif_pos h

/-- After step `n` the current block holds the sum of what its steps so far have added, and the scratch is zero off its
    diagonal squares. -/
theorem upTo_eq (c : Dev nD) (n : ℕ) (h : n < cfg0.N) :
    (∀ (r : Fin 128) (s : Fin 96), (upTo m c n h).1 (ix3 0 r s)
      = ∑ j ∈ Finset.range (n % 25 + 1), addedAt m c r s (25 * (n / 25) + j))
    ∧ OffZero (upTo m c n h).2 := by
  induction n with
  | zero =>
    obtain ⟨e, z⟩ := step_open m c ⟨0, h⟩ junk0 rfl (.inl rfl)
    refine ⟨fun r s => ?_, z⟩
    rw [upTo_zero, Nat.zero_mod, Nat.zero_div, Nat.mul_zero, zero_add, Finset.sum_range_one, addedAt_eq m c r s _ h]
    exact (congrFun e _).trans (open_at _ r s)
  | succ n ih =>
    obtain ⟨e0, z0⟩ := ih (Nat.lt_of_succ_lt h)
    rw [upTo_succ]
    by_cases h1 : (n + 1) % 25 = 0
    · obtain ⟨e, z⟩ := step_open m c ⟨n + 1, h⟩ (upTo m c n (Nat.lt_of_succ_lt h)) h1 (.inr z0)
      refine ⟨fun r s => ?_, z⟩
      have hq : 25 * ((n + 1) / 25) = n + 1 := by omega
      rw [h1, hq, zero_add, Finset.sum_range_one, add_zero, addedAt_eq m c r s _ h]
      exact (congrFun e _).trans (open_at _ r s)
    · obtain ⟨e, z⟩ := step_next m c ⟨n + 1, h⟩ (upTo m c n (Nat.lt_of_succ_lt h)) h1 z0
      refine ⟨fun r s => ?_, z⟩
      have hm : (n + 1) % 25 = n % 25 + 1 := by omega
      have hd : (n + 1) / 25 = n / 25 := by omega
      have hq : 25 * (n / 25) + (n % 25 + 1) = n + 1 := by omega
      rw [hm, hd, Finset.sum_range_succ, ← e0 r s, hq, addedAt_eq m c r s _ h]
      exact (congrFun e _).trans (next_at _ _ r s)

/-- The whole block: twenty-five steps. -/
theorem block_sum (c : Dev nD) (b : Fin 4) (h : 25 * b.val + 24 < cfg0.N) (r : Fin 128) (s : Fin 96) :
    (upTo m c (25 * b.val + 24) h).1 (ix3 0 r s)
      = ∑ j : Fin 25, (added m c ⟨25 * b.val + j.val, by omega⟩ (ix2 r s) : EReal) := by
  have hm : (25 * b.val + 24) % 25 = 24 := by omega
  have hd : (25 * b.val + 24) / 25 = b.val := by omega
  rw [(upTo_eq m c _ h).1 r s, hm, hd, Finset.sum_range]
  exact Finset.sum_congr rfl fun j _ => addedAt_eq m c r s _ _

/-- The result array of the kernel. -/
theorem result_at (c : Dev nD) (b : Fin 4) (r : Fin 128) (s : Fin 96) :
    G21 m c (ix3 b r s) = ∑ j : Fin 25, (added m c ⟨25 * b.val + j.val, by have : cfg0.N = 100 := N_0; omega⟩ (ix2 r s) : EReal) := by
  have hN : cfg0.N = 100 := N_0
  have hb : 25 * b.val + 24 < cfg0.N := by omega
  have hp : pt21Of (ix3 b r s) = 25 * b.val + 24 := by
    show 25 * (1 * (b.val / 1 - 0) + 1 * (r.val / 128 - 0) + 1 * (s.val / 96 - 0)) + 24 = _
    omega
  have hl : loc21Of (ix3 b r s) = ix3 0 r s := by
    funext a
    match a with
    | ⟨0, _⟩ => exact Fin.ext (Nat.mod_one _)
    | ⟨1, _⟩ => exact Fin.ext (Nat.mod_eq_of_lt r.isLt)
    | ⟨2, _⟩ => exact Fin.ext (Nat.mod_eq_of_lt s.isLt)
  rw [← block_sum m c b hb r s]
  unfold G21
  rw [dif_pos (by rw [hp]; exact hb), hl]
  have : ∀ k (hk : k = 25 * b.val + 24) (h' : 0 + k < cfg0.N),
      (Pipeline.accAt (fun n h => stAt0 m c n h junk0) (stAt0 m c) 0 k h').1 (ix3 0 r s) = (upTo m c (25 * b.val + 24) hb).1 (ix3 0 r s) := by
    intro k hk h'
    subst hk
    rfl
  exact this _ hp _

end Cert.KernelIdeal.Layer
-- ==== Proof.Rank.lean ====
/- The first `k` positions of a stable sort, the greatest first, are the positions of rank below `k`, where the rank of a
position counts the positions that beat it: a greater key, or an equal key earlier on. -/
module

public import Idealize.ShloMosaic.Lib.SortPrefix
public import Mathlib.Data.Fintype.Card
public import Mathlib.Order.Interval.Finset.Fin

@[expose] public section

namespace Cert.Rank

open Idealize.ShloMosaic

variable {n : ℕ} {κ : Type} [LinearOrder κ]

/-- Position `s` beats position `t`. -/
def beats (key : Fin n → κ) (s t : Fin n) : Bool :=
  decide (key t < key s) || (decide (key s = key t) && decide (s < t))

/-- How many positions beat `t`. -/
def rank (key : Fin n → κ) (t : Fin n) : ℕ := (Finset.univ.filter fun s => beats key s t = true).card

/-- The comparison the sort is given: greater keys first, ties left as they are. -/
def above (key : Fin n → κ) (s t : Fin n) : Bool := decide (key t < key s)

/-- Beating is a strict total order of the positions. -/
theorem beats_total (key : Fin n → κ) : StrictTotalBefore (beats key) :=
  StrictTotalBefore.of_key_then_position (fun a b => decide (b < a)) key (by simp)
    (fun a b c hab hbc => by
      simp only [decide_eq_true_eq] at *
      exact lt_trans hbc hab)
    (fun a b => by
      simp only [decide_eq_true_eq]
      rcases lt_trichotomy a b with h | h | h
      · exact .inr (.inr h)
      · exact .inr (.inl h)
      · exact .inl h)

/-- Putting an element before later ones asks the two comparisons the same questions. -/
theorem insert_same (key : Fin n → κ) (a : Fin n) (l : List (Fin n)) (h : ∀ b ∈ l, a < b) :
    insertBefore (above key) a l = insertBefore (beats key) a l := by
  induction l with
  | nil => rfl
  | cons b l ih =>
    have hb : above key b a = beats key b a := by
      have : ¬ b < a := not_lt.mpr (h b (by simp)).le
      simp [above, beats, this]
    unfold insertBefore
    rw [hb, ih fun c hc => h c (by simp [hc])]

/-- The stable sort of an ascending list is the sort by the strict order. -/
theorem sort_same (key : Fin n → κ) (l : List (Fin n)) (h : l.Pairwise (· < ·)) :
    stableSort (above key) l = stableSort (beats key) l := by
  induction l with
  | nil => rfl
  | cons a l ih =>
    unfold stableSort
    rw [ih h.of_cons]
    exact insert_same key a _ fun b hb =>
      List.rel_of_pairwise_cons h ((perm_stableSort _ l).mem_iff.mp hb)

/-- So both put the same position everywhere. -/
theorem sorted_same (key : Fin n → κ) : sortedFrom (above key) = sortedFrom (beats key) := by
  have h : sortPositions n (above key) = sortPositions n (beats key) :=
    sort_same key _ (List.pairwise_lt_finRange n)
  funext k
  unfold sortedFrom
  simp only [List.get_eq_getElem, h]
  rfl

/-- The position at place `i` beats the one at place `j` exactly when `i` comes first. -/
theorem beats_sorted (key : Fin n → κ) (i j : Fin n) :
    beats key (sortedFrom (beats key) i) (sortedFrom (beats key) j) = true ↔ i < j := by
  have hB := beats_total key
  have later : ∀ i j : Fin n, i < j → beats key (sortedFrom (beats key) i) (sortedFrom (beats key) j) = true := by
    intro i j hij
    have h := sortedFrom_noInversion (beats key) (beats key) (fun a b h => hB.asymm a b h) (fun _ _ h => h) hB.negTrans i j hij
    rcases hB.total (sortedFrom (beats key) i) (sortedFrom (beats key) j)
        (fun e => hij.ne (sortedFrom_injective _ e)) with h' | h'
    · exact h'
    · rw [h] at h'; exact absurd h' (by decide)
  refine ⟨fun h => ?_, later i j⟩
  rcases lt_trichotomy i j with hij | rfl | hij
  · exact hij
  · rw [hB.irrefl] at h; exact absurd h (by decide)
  · rw [hB.asymm _ _ (later j i hij)] at h; exact absurd h (by decide)

/-- The position at place `i` has rank `i`. -/
theorem rank_sorted (key : Fin n → κ) (i : Fin n) : rank key (sortedFrom (above key) i) = i.val := by
  rw [sorted_same]
  unfold rank
  rw [← Fin.card_Iio i]
  symm
  refine Finset.card_bij (fun j _ => sortedFrom (beats key) j) (fun j hj => ?_) (fun _ _ _ _ h => sortedFrom_injective _ h)
    fun s hs => ?_
  · simpa [beats_sorted] using hj
  · obtain ⟨j, rfl⟩ := sortedFrom_surjective (beats key) s
    exact ⟨j, by simpa [beats_sorted] using hs, rfl⟩

/-- A position is among the first `k` of the sort exactly when fewer than `k` positions beat it. -/
theorem rank_lt_iff (key : Fin n → κ) (k : ℕ) (t : Fin n) :
    rank key t < k ↔ ∃ i : Fin n, i.val < k ∧ sortedFrom (above key) i = t := by
  obtain ⟨i, rfl⟩ := sortedFrom_surjective (above key) t
  rw [rank_sorted]
  exact ⟨fun h => ⟨i, h, rfl⟩, fun ⟨j, hj, e⟩ => by rwa [← sortedFrom_injective _ e]⟩

end Cert.Rank
-- ==== Proof.Spec.lean ====
/- The encoder layer on one row of ninety-six numbers, written with plain sums over the extended reals. -/
module

public import Idealize.ShloMosaic.Lib.Pointwise
public import proofs.«01_k».proof.Proof.Rank

@[expose] public section

noncomputable section

namespace Cert.Spec

open Idealize.ShloMosaic

/-- The layer's parameters, every weight with its input index first. -/
structure Par where
  ew : Fin 128 → EReal
  eb : Fin 128 → EReal
  wq : Fin 128 → Fin 128 → EReal
  bq : Fin 128 → EReal
  wk : Fin 128 → Fin 128 → EReal
  bk : Fin 128 → EReal
  wv : Fin 128 → Fin 128 → EReal
  bv : Fin 128 → EReal
  wo : Fin 128 → Fin 128 → EReal
  bo : Fin 128 → EReal
  w1 : Fin 128 → Fin 256 → EReal
  b1 : Fin 256 → EReal
  w2 : Fin 256 → Fin 128 → EReal
  b2 : Fin 128 → EReal
  g1 : Fin 128 → EReal
  be1 : Fin 128 → EReal
  g2 : Fin 128 → EReal
  be2 : Fin 128 → EReal

/-- An affine map. -/
def lin {n k : ℕ} (y : Fin n → EReal) (w : Fin n → Fin k → EReal) (b : Fin k → EReal) (o : Fin k) : EReal :=
  ∑ i, y i * w i o + b o

/-- Layer normalisation over 128 channels. -/
def norm (y g b : Fin 128 → EReal) (j : Fin 128) : EReal :=
  Ideal.div (y j - Ideal.div (∑ i, y i) (Ideal.ofBits .f32 0x43000000#32))
    (Ideal.sqrt (Ideal.div
      (∑ k, (y k - Ideal.div (∑ i, y i) (Ideal.ofBits .f32 0x43000000#32)) * (y k - Ideal.div (∑ i, y i) (Ideal.ofBits .f32 0x43000000#32)))
      (Ideal.ofBits .f32 0x43000000#32) + Ideal.ofBits .f32 0x3727C5AC#32)) * g j + b j

/-- The softmax of a quarter of `z`. -/
def soft (z : Fin 96 → EReal) (t : Fin 96) : EReal :=
  Ideal.div
    (Ideal.exp (z t * Ideal.ofBits .f32 0x3E800000#32
      - Finset.fold max (Ideal.ofBits .f32 0xFF800000#32) (fun s => z s * Ideal.ofBits .f32 0x3E800000#32) Finset.univ))
    (∑ u, Ideal.exp (z u * Ideal.ofBits .f32 0x3E800000#32
      - Finset.fold max (Ideal.ofBits .f32 0xFF800000#32) (fun s => z s * Ideal.ofBits .f32 0x3E800000#32) Finset.univ))

/-- The sparsity measure of scores `z` over the sampled positions `σ`: their maximum less a ninety-sixth of their sum. -/
def measure (σ : Fin 15 → Fin 96) (z : Fin 96 → EReal) : EReal :=
  Finset.fold max (Ideal.ofBits .f32 0xFF800000#32) (fun i => z (σ i)) Finset.univ
    - Ideal.div (∑ i, z (σ i)) (Ideal.ofBits .f32 0x42C00000#32)

/-- Column `d` of head `h`. -/
def col (h : Fin 8) (d : Fin 16) : Fin 128 := ⟨16 * h.val + d.val, by omega⟩
/-- The head of a column. -/
def headOf (j : Fin 128) : Fin 8 := ⟨j.val / 16, by omega⟩

section Row

variable (p : Par) (σ : Fin 96 → Fin 15 → Fin 96) (x : Fin 96 → EReal)

/-- The embedding. -/
def hid (t : Fin 96) (j : Fin 128) : EReal := x t * p.ew j + p.eb j
/-- Queries, keys, values. -/
def q (t : Fin 96) : Fin 128 → EReal := lin (hid p x t) p.wq p.bq
def k (t : Fin 96) : Fin 128 → EReal := lin (hid p x t) p.wk p.bk
def v (t : Fin 96) : Fin 128 → EReal := lin (hid p x t) p.wv p.bv

/-- Scores of head `h`. -/
def score (h : Fin 8) (s t : Fin 96) : EReal := ∑ d, q p x s (col h d) * k p x t (col h d)

/-- The measures of head `h`. -/
def ms (h : Fin 8) (s : Fin 96) : EReal := measure (σ s) (score p x h s)

/-- The context: attention for the fifteen queries of largest measure (the earlier first among equals), the mean of the
    values for the others. -/
def ctx (t : Fin 96) (j : Fin 128) : EReal :=
  if Rank.rank (ms p σ x (headOf j)) t < 15 then ∑ s, soft (score p x (headOf j) t) s * v p x s j
  else Ideal.div (∑ s, v p x s j) (Ideal.ofBits .f32 0x42C00000#32)

/-- After attention. -/
def mid (t : Fin 96) : Fin 128 → EReal := norm (fun j => hid p x t j + lin (ctx p σ x t) p.wo p.bo j) p.g1 p.be1

/-- The hidden layer of the feed-forward block. -/
def ff (t : Fin 96) (o : Fin 256) : EReal := max (lin (mid p σ x t) p.w1 p.b1 o) 0

/-- The layer's output. -/
def out (t : Fin 96) : Fin 128 → EReal := norm (fun j => mid p σ x t j + lin (ff p σ x t) p.w2 p.b2 j) p.g2 p.be2

end Row

end Cert.Spec
-- ==== Proof.RowK.lean ====
/- What one grid step adds, in exact arithmetic: the layer's output on each of its ten rows, summed. -/
module

public import proofs.«01_k».proof.Proof.Fold
public import proofs.«01_k».proof.Proof.Spec
public import Idealize.ShloMosaic.Lib.Pointwise

@[expose] public section

set_option maxRecDepth 16384

noncomputable section

namespace Cert.KernelIdeal.Layer

open Cert.KernelIdeal Cert.KernelIdeal.Gen Idealize.ShloMosaic

/-- Position `t` of row `g` among the 960. -/
def pos (g : Fin 10) (t : Fin 96) : Fin 960 := ⟨g.val * 96 + t.val, by omega⟩

theorem pos_div (g : Fin 10) (t : Fin 96) (h : (pos g t).val / 96 < 10) : (⟨(pos g t).val / 96, h⟩ : Fin 10) = g :=
  Fin.ext (show (g.val * 96 + t.val) / 96 = g.val by omega)

theorem pos_mod (g : Fin 10) (t : Fin 96) (h : (pos g t).val % 96 < 96) : (⟨(pos g t).val % 96, h⟩ : Fin 96) = t :=
  Fin.ext (show (g.val * 96 + t.val) % 96 = t.val by omega)

/-- A sum over the 960 positions, row by row. -/
theorem sum_pos (f : Fin 960 → EReal) : ∑ x, f x = ∑ g : Fin 10, ∑ t : Fin 96, f (pos g t) := by
  rw [← Fintype.sum_prod_type' (f := fun g t => f (pos g t))]
  refine (Fintype.sum_equiv (finProdFinEquiv (m := 10) (n := 96)) _ _ fun y => ?_).symm
  congr 1
  apply Fin.ext
  show y.1.val * 96 + y.2.val = y.2.val + 96 * y.1.val
  omega

section Pieces

/-- The columns of a head. -/
theorem headCols_at (h : Fin 8) (x : FVec Ideal S960x128 .f32) (r : Fin 960) (d : Fin 16) :
    headCols h x (ix2 r d) = x (ix2 r (Spec.col h d)) := by
  pointwise [headCols]
  rfl

/-- The square of scores. -/
theorem square_at (qh kh : FVec Ideal S960x16 .f32) (r s : Fin 960) :
    square qh kh (ix2 r s) = ∑ d, (qh (ix2 r d) * kh (ix2 s d) : EReal) := by
  pointwise [square]

/-- One block of the square. -/
theorem slab_at (x : FVec Ideal S960x960 .f32) (g : Fin 10) (s t : Fin 96) :
    slab x g (ix3 0 s t) = x (ix2 (pos g s) (pos g t)) := by
  pointwise [slab]
  unfold pos
  congr 2 <;> apply Fin.ext <;> simp only [] <;> omega

/-- The scores of a row are the diagonal blocks of the square. -/
theorem scores_at (x : FVec Ideal S960x960 .f32) (g : Fin 10) (s t : Fin 96) :
    scores x (ix3 g s t) = x (ix2 (pos g s) (pos g t)) := by
  refine Eq.trans ?_ (slab_at x g s t)
  pointwise [scores]
  fin_cases g <;> rfl

/-- The heads' contexts, side by side. -/
theorem context_at (c : Fin 8 → FVec Ideal S10x96x16 .f32) (g : Fin 10) (t : Fin 96) (j : Fin 128) :
    context c (ix2 (pos g t) j) = c (Spec.headOf j) (ix3 g t ⟨j.val % 16, Nat.mod_lt _ (by decide)⟩) := by
  pointwise [context]
  simp only [pos_div, pos_mod]
  have pick : ∀ (a b : Fin 8) (x y : Fin 16), a.val = b.val → x.val = y.val → c a (ix3 g t x) = c b (ix3 g t y) := by
    intro a b x y h1 h2
    rw [Fin.ext h1, Fin.ext h2]
  have hj := j.isLt
  split_ifs <;> refine pick _ _ _ _ ?_ ?_ <;> simp [Spec.headOf] <;> omega

/-- The softmax. -/
theorem soft_at (z : FVec Ideal S10x96x96 .f32) (g : Fin 10) (s t : Fin 96) :
    k0_pay14 z (ix3 g s t) = Spec.soft (fun u => z (ix3 g s u)) t := by
  pointwise [k0_pay14]
  rfl

/-- The measure, over the mask and the counts. -/
theorem measure_at (z : FVec Ideal S10x96x96 .f32) (mask cnt : FVec Ideal S96x96 .f32) (g : Fin 10) (s : Fin 96) :
    (measure z mask cnt (ix2 g s) : EReal)
      = Finset.fold max (Ideal.ofBits .f32 0xFF800000#32) (fun t => if (0 : EReal) < mask (ix2 s t) then (z (ix3 g s t) : EReal) else ⊥) Finset.univ
        - (∑ t, (z (ix3 g s t) * cnt (ix2 s t) : EReal)) * ((96⁻¹ : ℝ) : EReal) := by
  have hm : (Named.named (F := Ideal) κ "mask" (φ := .f32) 0xF149F2CA#32 : EReal) = ⊥ :=
    IdealRules.named_const.ideal_named_scalar _ _ _ _ rfl
  have hr : (Named.named (F := Ideal) κ "r96" (φ := .f32) 0x3C2AAAAB#32 : EReal) = ((96⁻¹ : ℝ) : EReal) :=
    IdealRules.named_const.ideal_named_scalar _ _ _ _ rfl
  pointwise [measure]
  rw [hr]
  simp only [hm]

/-- The constant fifteen. -/
theorem bits_fifteen : Ideal.ofBits .f32 0x41700000#32 = ((15 : ℕ) : EReal) := by
  rw [show ((15 : ℕ) : EReal) = ((15 : ℝ) : EReal) by norm_cast]
  simp [Ideal.ofBits, Ideal.ieee, -EReal.coe_mul]; norm_num

/-- A truth value turned into a number, plus a choice of one or zero, when the two cannot both hold. -/
theorem count_bool (A B C : Bool) (h : A = true → B = true → False) :
    (FloatOps.sitofp (F := Ideal) FTy.f32 (BitVec.setWidth 32 (BitVec.ofBool A)) +
      Scalar.select (IntOp.andi (BitVec.ofBool B) (BitVec.ofBool C)) (1 : EReal) 0 : EReal)
      = if (A || B && C) = true then 1 else 0 := by
  have s1 : (FloatOps.sitofp (F := Ideal) FTy.f32 (BitVec.setWidth 32 (BitVec.ofBool true)) : EReal) = 1 := by
    show ((((BitVec.setWidth 32 (BitVec.ofBool true)).toInt : ℝ)) : EReal) = 1
    rw [show (BitVec.setWidth 32 (BitVec.ofBool true)).toInt = 1 by decide]
    norm_cast
  have s0 : (FloatOps.sitofp (F := Ideal) FTy.f32 (BitVec.setWidth 32 (BitVec.ofBool false)) : EReal) = 0 := by
    show ((((BitVec.setWidth 32 (BitVec.ofBool false)).toInt : ℝ)) : EReal) = 0
    rw [show (BitVec.setWidth 32 (BitVec.ofBool false)).toInt = 0 by decide]
    norm_cast
  have c1 : (Scalar.select (IntOp.andi (BitVec.ofBool true) (BitVec.ofBool true)) (1 : EReal) 0) = 1 := rfl
  have c2 : (Scalar.select (IntOp.andi (BitVec.ofBool true) (BitVec.ofBool false)) (1 : EReal) 0) = 0 := rfl
  have c3 : ∀ C, (Scalar.select (IntOp.andi (BitVec.ofBool false) (BitVec.ofBool C)) (1 : EReal) 0) = 0 := fun C => by
    cases C <;> rfl
  cases A <;> cases B
  · rw [s0, c3]; simp
  · cases C
    · rw [s0, c2]; simp
    · rw [s0, c1]; simp
  · rw [s1, c3]; simp
  · exact absurd rfl (fun e => h rfl e)

/-- One comparison of two measures counts one if the other query is ahead and zero if it is not. -/
theorem count_one (m : Fin 96 → EReal) (s t : Fin 96) :
    (FloatOps.sitofp (F := Ideal) FTy.f32 (BitVec.setWidth 32 (BitVec.ofBool (decide (m t < m s)))) +
      Scalar.select (IntOp.andi (BitVec.ofBool (decide (m s = m t)))
        (IntOp.cmpi CmpIPredicate.slt (BitVec.ofNat 32 s.val) (BitVec.ofNat 32 t.val))) (1 : EReal) 0 : EReal)
      = if Rank.beats m s t = true then 1 else 0 := by
  rw [WordCmp.cmpi_slt_ofNat (by have := s.isLt; omega) (by have := t.isLt; omega)]
  exact count_bool (decide (m t < m s)) (decide (m s = m t)) (decide (s < t)) fun h1 h2 =>
    absurd (of_decide_eq_true h1) (by rw [of_decide_eq_true h2]; exact lt_irrefl _)

/-- The queries kept are those of rank below fifteen. -/
theorem picked_at (m : FVec Ideal S10x96 .f32) (g : Fin 10) (t : Fin 96) :
    picked m (ix2 g t) = BitVec.ofBool (decide (Rank.rank (fun s => (m (ix2 g s) : EReal)) t < 15)) := by
  pointwise [picked, k0_pay13]
  simp only [count_one (fun s => (m (ix2 g s) : EReal))]
  rw [bits_fifteen, Finset.sum_boole]
  unfold Rank.rank
  congr 2
  exact propext Nat.cast_lt

/-- A row of the spread softmax against a column: only the row's own block counts. -/
theorem spread_sum (p : FVec Ideal S10x96x96 .f32) (w : Fin 960 → EReal) (g : Fin 10) (s : Fin 96) :
    ∑ x, (spread p (ix2 (pos g s) x) * w x : EReal) = ∑ t, (p (ix3 g s t) * w (pos g t) : EReal) := by
  rw [sum_pos]
  have own : ∀ (g' : Fin 10) (t : Fin 96), (spread p (ix2 (pos g s) (pos g' t)) : EReal) = if g = g' then p (ix3 g s t) else 0 := by
    intro g' t
    show (spreadAt p (pos g s) (pos g' t) : EReal) = _
    unfold spreadAt
    have e1 : (pos g s).val / 96 = g.val := congrArg Fin.val (pos_div g s (by omega))
    have e2 : (pos g' t).val / 96 = g'.val := congrArg Fin.val (pos_div g' t (by omega))
    by_cases h : g = g'
    · subst h
      rw [if_pos (e1.trans e2.symm), if_pos rfl, pos_div, pos_mod, pos_mod]
    · rw [if_neg (fun e => h (Fin.ext (e1.symm.trans (e.trans e2)))), if_neg h]
      exact Ideal.ofBits_zero_f32
  refine (Finset.sum_eq_single g (fun g' _ hg => ?_) (fun h => absurd (Finset.mem_univ g) h)).trans ?_
  · refine Finset.sum_eq_zero fun t _ => ?_
    rw [own, if_neg (Ne.symm hg), zero_mul]
  · exact Finset.sum_congr rfl fun t _ => by rw [own, if_pos rfl]

/-- A head's context. -/
theorem pay26_at (w : FVec Ideal S960x16 .f32) (k : IVec S10x96 1) (p : FVec Ideal S10x96x96 .f32) (g : Fin 10) (t : Fin 96) (d : Fin 16) :
    (k0_pay26 w k (spread p) (ix3 g t d) : EReal)
      = Scalar.select (k (ix2 g t)) (∑ s, (p (ix3 g t s) * w (ix2 (pos g s) d) : EReal))
          (Ideal.div (∑ s, (w (ix2 (pos g s) d) : EReal)) (Ideal.ofBits .f32 0x42C00000#32)) := by
  pointwise [k0_pay26]
  exact congrArg (fun z => Scalar.select (k (ix2 g t)) z _) (spread_sum p (fun x => w (ix2 x d)) g t)

/-- The residual sum after attention, normalised. -/
theorem pay171_at (h c : FVec Ideal S960x128 .f32) (wo : FVec Ideal S128x128 .f32) (bo g1 be1 : FVec Ideal S1x128 .f32) (r : Fin 960) (j : Fin 128) :
    k0_pay171 h c (k0_pay170 wo) (constant S960x128 .f32 0x00000000#32) bo g1 be1 (ix2 r j)
      = Spec.norm (fun j => h (ix2 r j) + Spec.lin (fun i => c (ix2 r i)) (fun i o => wo (ix2 i o)) (fun o => bo (ix2 0 o)) j)
          (fun j => g1 (ix2 0 j)) (fun j => be1 (ix2 0 j)) j := by
  pointwise [k0_pay171, k0_pay170]
  rfl

/-- The feed-forward block's hidden layer. -/
theorem pay172_at (h c : FVec Ideal S960x128 .f32) (wo : FVec Ideal S128x128 .f32) (bo g1 be1 : FVec Ideal S1x128 .f32)
    (w1 : FVec Ideal S128x256 .f32) (b1 : FVec Ideal S1x256 .f32) (r : Fin 960) (o : Fin 256) :
    k0_pay172 h c (k0_pay170 wo) (constant S960x128 .f32 0x00000000#32) bo g1 be1 w1 b1 (ix2 r o)
      = max (Spec.lin (fun i => k0_pay171 h c (k0_pay170 wo) (constant S960x128 .f32 0x00000000#32) bo g1 be1 (ix2 r i))
          (fun i o => w1 (ix2 i o)) (fun o => b1 (ix2 0 o)) o) 0 := by
  pointwise [k0_pay172]
  rfl

/-- The second normalisation, summed over the ten rows. -/
theorem pay173_at (y : FVec Ideal S960x128 .f32) (f : FVec Ideal S960x256 .f32) (w2 : FVec Ideal S256x128 .f32)
    (b2 g2 be2 : FVec Ideal S1x128 .f32) (j : Fin 128) (t : Fin 96) :
    (k0_pay173 y f w2 b2 g2 be2 (ix2 j t) : EReal)
      = ∑ g : Fin 10, Spec.norm
          (fun j => y (ix2 (pos g t) j) + Spec.lin (fun i => f (ix2 (pos g t) i)) (fun i o => w2 (ix2 i o)) (fun o => b2 (ix2 0 o)) j)
          (fun j => g2 (ix2 0 j)) (fun j => be2 (ix2 0 j)) j := by
  pointwise [k0_pay173]
  rfl

/-- A maximum over the sampled positions is the maximum over all positions with the others masked out. -/
theorem max_sampled (b : EReal) (hb : b = ⊥) (σ : Fin 15 → Fin 96) (z : Fin 96 → EReal) (c : Fin 96 → Prop) [DecidablePred c]
    (hc : ∀ t, c t ↔ ∃ i, σ i = t) :
    Finset.fold max b (fun t => if c t then z t else ⊥) Finset.univ = Finset.fold max b (fun i => z (σ i)) Finset.univ := by
  subst hb
  apply le_antisymm
  · rw [Finset.fold_max_le]
    refine ⟨bot_le, fun t _ => ?_⟩
    split
    · rename_i h
      obtain ⟨i, rfl⟩ := (hc t).mp h
      exact Finset.le_fold_max _ |>.mpr (.inr ⟨i, Finset.mem_univ _, le_rfl⟩)
    · exact bot_le
  · rw [Finset.fold_max_le]
    refine ⟨bot_le, fun i _ => ?_⟩
    refine Finset.le_fold_max _ |>.mpr (.inr ⟨σ i, Finset.mem_univ _, ?_⟩)
    rw [if_pos ((hc _).mpr ⟨i, rfl⟩)]

/-- A sum over the sampled positions is the sum over all positions, each as often as it was sampled. -/
theorem sum_sampled (σ : Fin 15 → Fin 96) (z n : Fin 96 → EReal)
    (hn : ∀ t, n t = (((Finset.univ.filter fun i => σ i = t).card : ℕ) : EReal)) :
    ∑ t, z t * n t = ∑ i, z (σ i) := by
  rw [← Finset.sum_fiberwise_of_maps_to (s := Finset.univ) (t := Finset.univ) (g := σ) (fun _ _ => Finset.mem_univ _)]
  refine Finset.sum_congr rfl fun t _ => ?_
  rw [hn, Finset.sum_congr rfl (fun i hi => by rw [(Finset.mem_filter.mp hi).2] : ∀ i ∈ Finset.univ.filter (fun i => σ i = t), z (σ i) = z t),
    Finset.sum_const, EReal.nsmul_eq_mul, mul_comm]

/-- Dividing by ninety-six is multiplying by its reciprocal. -/
theorem div_96 (y : EReal) : Ideal.div y (Ideal.ofBits .f32 0x42C00000#32) = y * ((96⁻¹ : ℝ) : EReal) := by
  rw [show Ideal.ofBits .f32 0x42C00000#32 = ((96 : ℝ) : EReal) by
    simp [Ideal.ofBits, Ideal.ieee, -EReal.coe_mul]; norm_num, Ideal.div_coe (by norm_num), one_div]

/-- The starting value of the maxima. -/
theorem bits_bot : Ideal.ofBits .f32 0xFF800000#32 = ⊥ := by
  simp [Ideal.ofBits, Ideal.ieee]

end Pieces

section Step

variable (a : Args Ideal)

/-- The parameters the step reads. -/
def Args.par : Spec.Par where
  ew j := a.ew (ix2 0 j)
  eb j := a.eb (ix2 0 j)
  wq i o := a.wq (ix2 i o)
  bq j := a.bq (ix2 0 j)
  wk i o := a.wk (ix2 i o)
  bk j := a.bk (ix2 0 j)
  wv i o := a.wv (ix2 i o)
  bv j := a.bv (ix2 0 j)
  wo i o := a.wo (ix2 i o)
  bo j := a.bo (ix2 0 j)
  w1 i o := a.w1 (ix2 i o)
  b1 j := a.b1 (ix2 0 j)
  w2 i o := a.w2 (ix2 i o)
  b2 j := a.b2 (ix2 0 j)
  g1 j := a.g1 (ix2 0 j)
  be1 j := a.be1 (ix2 0 j)
  g2 j := a.g2 (ix2 0 j)
  be2 j := a.be2 (ix2 0 j)

/-- Row `g` of the step. -/
def Args.row (g : Fin 10) (t : Fin 96) : EReal := a.x (ix3 0 g t)

/-- The embedding. -/
theorem hid_at (g : Fin 10) (t : Fin 96) (j : Fin 128) : a.hid (ix2 (pos g t) j) = Spec.hid a.par (a.row g) t j := by
  unfold Args.hid
  pointwise [k0_pay3]
  rw [pos_div, pos_mod]
  rfl

/-- Queries. -/
theorem q_at (g : Fin 10) (t : Fin 96) (j : Fin 128) : a.q (ix2 (pos g t) j) = Spec.q a.par (a.row g) t j := by
  unfold Args.q
  pointwise [k0_pay4]
  exact congrArg (· + _) (Finset.sum_congr rfl fun i _ => congrArg (· * _) (hid_at a g t i))

/-- Keys. -/
theorem k_at (g : Fin 10) (t : Fin 96) (j : Fin 128) : a.k (ix2 (pos g t) j) = Spec.k a.par (a.row g) t j := by
  unfold Args.k
  pointwise [k0_pay5]
  exact congrArg (· + _) (Finset.sum_congr rfl fun i _ => congrArg (· * _) (hid_at a g t i))

/-- Values. -/
theorem v_at (g : Fin 10) (t : Fin 96) (j : Fin 128) : a.v (ix2 (pos g t) j) = Spec.v a.par (a.row g) t j := by
  unfold Args.v
  pointwise [k0_pay7, k0_pay6]
  exact congrArg (· + _) (Finset.sum_congr rfl fun i _ => congrArg (· * _) (hid_at a g t i))

/-- Scores. -/
theorem sc_at (h : Fin 8) (g : Fin 10) (s t : Fin 96) : a.sc h (ix3 g s t) = Spec.score a.par (a.row g) h s t := by
  unfold Args.sc
  rw [scores_at, square_at]
  refine Finset.sum_congr rfl fun d _ => ?_
  rw [headCols_at, headCols_at, q_at, k_at]

/-- The softmax of a head. -/
theorem softmax_at (h : Fin 8) (g : Fin 10) (s t : Fin 96) :
    a.soft h (ix3 g s t) = Spec.soft (Spec.score a.par (a.row g) h s) t := by
  unfold Args.soft
  rw [soft_at]
  exact congrArg (fun z => Spec.soft z t) (funext fun u => sc_at a h g s u)

variable (σ : Fin 96 → Fin 15 → Fin 96)
  (hmask : ∀ s t, (0 : EReal) < a.mask (ix2 s t) ↔ ∃ i, σ s i = t)
  (hcnt : ∀ s t, a.cnt (ix2 s t) = (((Finset.univ.filter fun i => σ s i = t).card : ℕ) : EReal))

include hmask hcnt

/-- The measure. -/
theorem ms_at (h : Fin 8) (g : Fin 10) (s : Fin 96) : (a.ms h (ix2 g s) : EReal) = Spec.ms a.par σ (a.row g) h s := by
  unfold Args.ms Spec.ms Spec.measure
  rw [measure_at, div_96]
  simp only [sc_at]
  rw [max_sampled _ bits_bot (σ s) (Spec.score a.par (a.row g) h s) (fun t => (0 : EReal) < a.mask (ix2 s t)) (hmask s),
    sum_sampled (σ s) (Spec.score a.par (a.row g) h s) (fun t => a.cnt (ix2 s t)) (hcnt s)]

/-- The context. -/
theorem ctx_at (g : Fin 10) (t : Fin 96) (j : Fin 128) :
    (context (a.ctx fun h => spread (a.soft h)) (ix2 (pos g t) j) : EReal) = Spec.ctx a.par σ (a.row g) t j := by
  have hcol : Spec.col (Spec.headOf j) ⟨j.val % 16, Nat.mod_lt _ (by decide)⟩ = j :=
    Fin.ext (Nat.div_add_mod j.val 16)
  rw [context_at]
  unfold Args.ctx Spec.ctx
  rw [pay26_at, picked_at]
  simp only [headCols_at, hcol, v_at, softmax_at, ms_at a σ hmask hcnt]
  by_cases hr : Rank.rank (Spec.ms a.par σ (a.row g) (Spec.headOf j)) t < 15
  · rw [if_pos hr]
    exact (congrArg (fun b => Scalar.select (BitVec.ofBool b) _ _) (decide_eq_true hr)).trans rfl
  · rw [if_neg hr]
    exact (congrArg (fun b => Scalar.select (BitVec.ofBool b) _ _) (decide_eq_false hr)).trans rfl

/-- After attention. -/
theorem mid_at (g : Fin 10) (t : Fin 96) (j : Fin 128) :
    (a.mid (fun h => spread (a.soft h)) (ix2 (pos g t) j) : EReal) = Spec.mid a.par σ (a.row g) t j := by
  unfold Args.mid
  rw [pay171_at]
  simp only [hid_at, ctx_at a σ hmask hcnt]
  rfl

/-- What a step adds: the layer's output on each of its rows. -/
theorem contrib_at (j : Fin 128) (t : Fin 96) :
    (a.contrib (fun h => spread (a.soft h)) (ix2 j t) : EReal) = ∑ g : Fin 10, Spec.out a.par σ (a.row g) t j := by
  unfold Args.contrib
  rw [pay173_at]
  refine Finset.sum_congr rfl fun g _ => ?_
  simp only [pay172_at]
  have hm : ∀ i, (k0_pay171 a.hid (context (a.ctx fun h => spread (a.soft h))) (k0_pay170 a.wo)
      (constant S960x128 .f32 0x00000000#32) a.bo a.g1 a.be1 (ix2 (pos g t) i) : EReal) = Spec.mid a.par σ (a.row g) t i :=
    fun i => mid_at a σ hmask hcnt g t i
  simp only [hm, mid_at a σ hmask hcnt]
  rfl

end Step

end Cert.KernelIdeal.Layer
-- ==== Proof.Table.lean ====
/- The sampled positions: the reference's table of indices, and the kernel's two tables of the same positions. -/
module

public import proofs.«01_k».proof.Proof.RowK
public import proofs.«01_k».proof.ReferenceIdeal

@[expose] public section

set_option maxRecDepth 65536

noncomputable section

namespace Cert.Sample

open Idealize.ShloMosaic

/-- The `i`-th position sampled for query `s`. -/
def sample (s : Fin 96) (i : Fin 15) : Fin 96 :=
  ⟨(Cert.ReferenceIdeal.lit0 ⟨s.val * 15 + i.val, by omega⟩).toNat % 96, Nat.mod_lt _ (by decide)⟩

/-- How often position `t` is sampled for query `s`. -/
def times (s t : Fin 96) : ℕ := (Finset.univ.filter fun i => sample s i = t).card

/-- The words of the small counts. -/
def countWord : ℕ → BitVec 32
  | 0 => 0x00000000#32
  | 1 => 0x3F800000#32
  | 2 => 0x40000000#32
  | 3 => 0x40400000#32
  | _ => 0x40800000#32

/-- Every entry of the reference's table is a position. -/
theorem entry (s : Fin 96) (i : Fin 15) :
    Cert.ReferenceIdeal.lit0 ⟨s.val * 15 + i.val, by omega⟩ = BitVec.ofNat 32 (sample s i).val := by
  revert s i
  decide +kernel

/-- The kernel's tables say which positions are sampled and how often. -/
theorem tables (s t : Fin 96) :
    Cert.KernelIdeal.lit0 ⟨s.val * 96 + t.val, by omega⟩ = (if times s t = 0 then 0x00000000#32 else 0x3F800000#32) ∧
      Cert.KernelIdeal.lit1 ⟨s.val * 96 + t.val, by omega⟩ = countWord (times s t) ∧ times s t < 5 := by
  revert s t
  decide +kernel

end Cert.Sample
-- ==== Proof.Host.lean ====
/- What each step of the grid reads, in terms of the program's arguments; and the kernel's result as a sum over rows. -/
module

public import proofs.«01_k».proof.Proof.Table
public import Idealize.ShloMosaic.Lib.Pipeline.ValueKit

@[expose] public section

set_option maxRecDepth 16384

noncomputable section

namespace Cert.Spec

open Idealize.ShloMosaic

/-- The layer's parameters, from arrays laid out as the programs take them: every weight with its output index first. -/
def Par.of (ew eb : Vec Ideal ⟨1, ![128]⟩ .f32) (wq : Vec Ideal ⟨2, ![128, 128]⟩ .f32) (bq : Vec Ideal ⟨1, ![128]⟩ .f32)
    (wk : Vec Ideal ⟨2, ![128, 128]⟩ .f32) (bk : Vec Ideal ⟨1, ![128]⟩ .f32)
    (wv : Vec Ideal ⟨2, ![128, 128]⟩ .f32) (bv : Vec Ideal ⟨1, ![128]⟩ .f32)
    (wo : Vec Ideal ⟨2, ![128, 128]⟩ .f32) (bo : Vec Ideal ⟨1, ![128]⟩ .f32)
    (w1 : Vec Ideal ⟨2, ![256, 128]⟩ .f32) (b1 : Vec Ideal ⟨1, ![256]⟩ .f32)
    (w2 : Vec Ideal ⟨2, ![128, 256]⟩ .f32) (b2 g1 be1 g2 be2 : Vec Ideal ⟨1, ![128]⟩ .f32) : Par where
  ew j := ew (ix1 j)
  eb j := eb (ix1 j)
  wq i o := wq (ix2 o i)
  bq j := bq (ix1 j)
  wk i o := wk (ix2 o i)
  bk j := bk (ix1 j)
  wv i o := wv (ix2 o i)
  bv j := bv (ix1 j)
  wo i o := wo (ix2 o i)
  bo j := bo (ix1 j)
  w1 i o := w1 (ix2 o i)
  b1 j := b1 (ix1 j)
  w2 i o := w2 (ix2 o i)
  b2 j := b2 (ix1 j)
  g1 j := g1 (ix1 j)
  be1 j := be1 (ix1 j)
  g2 j := g2 (ix1 j)
  be2 j := be2 (ix1 j)

end Cert.Spec

namespace Cert.KernelIdeal.Layer

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD) (t : Fin cfg0.N)

/-- The rows' blocks, one per step. -/
theorem idx_rows : ∀ t : Fin cfg0.N, win0_0.index t = ![t.val, 0, 0] := by decide +kernel

/-- Every other operand is one block. -/
theorem idx_whole : ∀ t : Fin cfg0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] := by decide +kernel

/-- Row `g` of step `t` is the argument's row `10 t + g`, counted through both leading axes. -/
theorem x_at (g : Fin 10) (s : Fin 96) (b : Fin 4) (n : Fin 250) (h : b.val * 250 + n.val = t.val * 10 + g.val) :
    (argsAt m c t).x (ix3 0 g s) = (m (c.tc.loc main_arg0) : Vec Ideal S1x4x250x96 .f32) (ix4 0 b n s) := by
  show iblk m c 0 t (ix3 0 g s) = _
  blk_ext! [iblk, V, idx_rows t] <;> omega

theorem ew_at (j : Fin 128) : (argsAt m c t).ew (ix2 0 j) = (m (c.tc.loc main_arg1) : Vec Ideal S128 .f32) (ix1 j) := by
  show iblk m c 1 t (ix2 0 j) = _
  blk_ext! [iblk, V, (idx_whole t).1]

theorem eb_at (j : Fin 128) : (argsAt m c t).eb (ix2 0 j) = (m (c.tc.loc main_arg2) : Vec Ideal S128 .f32) (ix1 j) := by
  show iblk m c 2 t (ix2 0 j) = _
  blk_ext! [iblk, V, (idx_whole t).2.1]

theorem wq_at (i : Fin 128) (o : Fin 128) :
    (argsAt m c t).wq (ix2 i o) = (m (c.tc.loc main_arg3) : Vec Ideal S128x128 .f32) (ix2 o i) := by
  show iblk m c 3 t (ix2 i o) = _
  blk_ext! [iblk, V, (idx_whole t).2.2.1]

theorem bq_at (j : Fin 128) : (argsAt m c t).bq (ix2 0 j) = (m (c.tc.loc main_arg4) : Vec Ideal S128 .f32) (ix1 j) := by
  show iblk m c 4 t (ix2 0 j) = _
  blk_ext! [iblk, V, (idx_whole t).2.2.2.1]

theorem wk_at (i : Fin 128) (o : Fin 128) :
    (argsAt m c t).wk (ix2 i o) = (m (c.tc.loc main_arg5) : Vec Ideal S128x128 .f32) (ix2 o i) := by
  show iblk m c 5 t (ix2 i o) = _
  blk_ext! [iblk, V, (idx_whole t).2.2.2.2.1]

theorem bk_at (j : Fin 128) : (argsAt m c t).bk (ix2 0 j) = (m (c.tc.loc main_arg6) : Vec Ideal S128 .f32) (ix1 j) := by
  show iblk m c 6 t (ix2 0 j) = _
  blk_ext! [iblk, V, (idx_whole t).2.2.2.2.2.1]

theorem wv_at (i : Fin 128) (o : Fin 128) :
    (argsAt m c t).wv (ix2 i o) = (m (c.tc.loc main_arg7) : Vec Ideal S128x128 .f32) (ix2 o i) := by
  show iblk m c 7 t (ix2 i o) = _
  blk_ext! [iblk, V, (idx_whole t).2.2.2.2.2.2.1]

theorem bv_at (j : Fin 128) : (argsAt m c t).bv (ix2 0 j) = (m (c.tc.loc main_arg8) : Vec Ideal S128 .f32) (ix1 j) := by
  show iblk m c 8 t (ix2 0 j) = _
  blk_ext! [iblk, V, (idx_whole t).2.2.2.2.2.2.2.1]

theorem wo_at (i : Fin 128) (o : Fin 128) :
    (argsAt m c t).wo (ix2 i o) = (m (c.tc.loc main_arg9) : Vec Ideal S128x128 .f32) (ix2 o i) := by
  show iblk m c 9 t (ix2 i o) = _
  blk_ext! [iblk, V, (idx_whole t).2.2.2.2.2.2.2.2.1]

theorem bo_at (j : Fin 128) : (argsAt m c t).bo (ix2 0 j) = (m (c.tc.loc main_arg10) : Vec Ideal S128 .f32) (ix1 j) := by
  show iblk m c 10 t (ix2 0 j) = _
  blk_ext! [iblk, V, (idx_whole t).2.2.2.2.2.2.2.2.2.1]

theorem w1_at (i : Fin 128) (o : Fin 256) :
    (argsAt m c t).w1 (ix2 i o) = (m (c.tc.loc main_arg11) : Vec Ideal S256x128 .f32) (ix2 o i) := by
  show iblk m c 11 t (ix2 i o) = _
  blk_ext! [iblk, V, (idx_whole t).2.2.2.2.2.2.2.2.2.2.1]

theorem b1_at (j : Fin 256) : (argsAt m c t).b1 (ix2 0 j) = (m (c.tc.loc main_arg12) : Vec Ideal S256 .f32) (ix1 j) := by
  show iblk m c 12 t (ix2 0 j) = _
  blk_ext! [iblk, V, (idx_whole t).2.2.2.2.2.2.2.2.2.2.2.1]

theorem w2_at (i : Fin 256) (o : Fin 128) :
    (argsAt m c t).w2 (ix2 i o) = (m (c.tc.loc main_arg13) : Vec Ideal S128x256 .f32) (ix2 o i) := by
  show iblk m c 13 t (ix2 i o) = _
  blk_ext! [iblk, V, (idx_whole t).2.2.2.2.2.2.2.2.2.2.2.2.1]

theorem b2_at (j : Fin 128) : (argsAt m c t).b2 (ix2 0 j) = (m (c.tc.loc main_arg14) : Vec Ideal S128 .f32) (ix1 j) := by
  show iblk m c 14 t (ix2 0 j) = _
  blk_ext! [iblk, V, (idx_whole t).2.2.2.2.2.2.2.2.2.2.2.2.2.1]

theorem g1_at (j : Fin 128) : (argsAt m c t).g1 (ix2 0 j) = (m (c.tc.loc main_arg15) : Vec Ideal S128 .f32) (ix1 j) := by
  show iblk m c 15 t (ix2 0 j) = _
  blk_ext! [iblk, V, (idx_whole t).2.2.2.2.2.2.2.2.2.2.2.2.2.2.1]

theorem be1_at (j : Fin 128) : (argsAt m c t).be1 (ix2 0 j) = (m (c.tc.loc main_arg16) : Vec Ideal S128 .f32) (ix1 j) := by
  show iblk m c 16 t (ix2 0 j) = _
  blk_ext! [iblk, V, (idx_whole t).2.2.2.2.2.2.2.2.2.2.2.2.2.2.2.1]

theorem g2_at (j : Fin 128) : (argsAt m c t).g2 (ix2 0 j) = (m (c.tc.loc main_arg17) : Vec Ideal S128 .f32) (ix1 j) := by
  show iblk m c 17 t (ix2 0 j) = _
  blk_ext! [iblk, V, (idx_whole t).2.2.2.2.2.2.2.2.2.2.2.2.2.2.2.2.1]

theorem be2_at (j : Fin 128) : (argsAt m c t).be2 (ix2 0 j) = (m (c.tc.loc main_arg18) : Vec Ideal S128 .f32) (ix1 j) := by
  show iblk m c 18 t (ix2 0 j) = _
  blk_ext! [iblk, V, (idx_whole t).2.2.2.2.2.2.2.2.2.2.2.2.2.2.2.2.2.1]

/-- The mask is a literal table. -/
theorem mask_at (i j : Fin 96) : (argsAt m c t).mask (ix2 i j) = Ideal.ofBits .f32 (lit0 ⟨i.val * 96 + j.val, by omega⟩) := by
  show iblk m c 19 t (ix2 i j) = _
  have h : iblk m c 19 t (ix2 i j) = V m c main_cst (ix2 i j) := by blk_ext! [iblk, (idx_whole t).2.2.2.2.2.2.2.2.2.2.2.2.2.2.2.2.2.2.1]
  rw [h]
  entry_read
  exact congrArg (fun k => Ideal.ofBits .f32 (lit0 k)) (Fin.ext (Shape.rowMajor_val_two _))

/-- The counts are a literal table. -/
theorem cnt_at (i j : Fin 96) : (argsAt m c t).cnt (ix2 i j) = Ideal.ofBits .f32 (lit1 ⟨i.val * 96 + j.val, by omega⟩) := by
  show iblk m c 20 t (ix2 i j) = _
  have h : iblk m c 20 t (ix2 i j) = V m c main_cst_0 (ix2 i j) := by blk_ext! [iblk, (idx_whole t).2.2.2.2.2.2.2.2.2.2.2.2.2.2.2.2.2.2.2]
  rw [h]
  entry_read
  exact congrArg (fun k => Ideal.ofBits .f32 (lit1 k)) (Fin.ext (Shape.rowMajor_val_two _))

/-- The layer's parameters, from the program's arguments. -/
def params : Spec.Par :=
  Spec.Par.of (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18))

/-- Row `n` of batch `b`. -/
def inRow (b : Fin 4) (n : Fin 250) (s : Fin 96) : EReal := (m (c.tc.loc main_arg0) : Vec Ideal S1x4x250x96 .f32) (ix4 0 b n s)

/-- Every step reads the same parameters. -/
theorem par_eq : (argsAt m c t).par = params m c := by
  unfold Args.par params Spec.Par.of
  congr 1
  · exact funext fun j => ew_at m c t j
  · exact funext fun j => eb_at m c t j
  · exact funext fun i => funext fun o => wq_at m c t i o
  · exact funext fun j => bq_at m c t j
  · exact funext fun i => funext fun o => wk_at m c t i o
  · exact funext fun j => bk_at m c t j
  · exact funext fun i => funext fun o => wv_at m c t i o
  · exact funext fun j => bv_at m c t j
  · exact funext fun i => funext fun o => wo_at m c t i o
  · exact funext fun j => bo_at m c t j
  · exact funext fun i => funext fun o => w1_at m c t i o
  · exact funext fun j => b1_at m c t j
  · exact funext fun i => funext fun o => w2_at m c t i o
  · exact funext fun j => b2_at m c t j
  · exact funext fun j => g1_at m c t j
  · exact funext fun j => be1_at m c t j
  · exact funext fun j => g2_at m c t j
  · exact funext fun j => be2_at m c t j

/-- The words of the counts, as numbers. -/
theorem countWord_val (n : ℕ) (h : n < 5) : Ideal.ofBits .f32 (Sample.countWord n) = ((n : ℕ) : EReal) := by
  rw [show ((n : ℕ) : EReal) = ((n : ℝ) : EReal) by norm_cast]
  interval_cases n <;> simp [Sample.countWord, Ideal.ofBits, Ideal.ieee, -EReal.coe_mul] <;> norm_num

/-- The counts. -/
theorem cnt_times (i j : Fin 96) : (argsAt m c t).cnt (ix2 i j) = ((Sample.times i j : ℕ) : EReal) := by
  rw [cnt_at, (Sample.tables i j).2.1, countWord_val _ (Sample.tables i j).2.2]

/-- The mask is positive exactly at the sampled positions. -/
theorem mask_pos (i j : Fin 96) : (0 : EReal) < (argsAt m c t).mask (ix2 i j) ↔ ∃ k, Sample.sample i k = j := by
  have h1 : Ideal.ofBits .f32 0x3F800000#32 = ((1 : ℕ) : EReal) := countWord_val 1 (by omega)
  have h0 : Ideal.ofBits .f32 0x00000000#32 = ((0 : ℕ) : EReal) := countWord_val 0 (by omega)
  rw [mask_at, (Sample.tables i j).1]
  have e : Sample.times i j = 0 ↔ ¬ ∃ k, Sample.sample i k = j := by
    unfold Sample.times
    rw [Finset.card_eq_zero, Finset.filter_eq_empty_iff]
    push Not
    exact ⟨fun h k => h (Finset.mem_univ k), fun h k _ => h k⟩
  by_cases hz : Sample.times i j = 0
  · rw [if_pos hz, h0]
    exact ⟨fun h => absurd h (by simp), fun h => absurd h (e.mp hz)⟩
  · rw [if_neg hz, h1]
    exact ⟨fun _ => not_not.mp (fun h => hz (e.mpr h)), fun _ => by simp⟩

/-- What step `t` adds at channel `r` and position `s`. -/
theorem added_at (r : Fin 128) (s : Fin 96) (row : Fin 10 → Fin 4 × Fin 250)
    (h : ∀ g, (row g).1.val * 250 + (row g).2.val = t.val * 10 + g.val) :
    (added m c t (ix2 r s) : EReal) =
      ∑ g : Fin 10, Spec.out (params m c) Sample.sample (inRow m c (row g).1 (row g).2) s r := by
  unfold added
  rw [contrib_at _ Sample.sample (mask_pos m c t) (cnt_times m c t)]
  refine Finset.sum_congr rfl fun g _ => ?_
  rw [par_eq]
  exact congrArg (fun x => Spec.out (params m c) Sample.sample x s r) (funext fun u => x_at m c t g u _ _ (h g))

/-- The kernel's result: the layer's output summed over the rows of the batch. -/
theorem result_rows (b : Fin 4) (r : Fin 128) (s : Fin 96) :
    (G21 m c (ix3 b r s) : EReal) = ∑ n : Fin 250, Spec.out (params m c) Sample.sample (inRow m c b n) s r := by
  have e : ∀ f : Fin 250 → EReal, ∑ n, f n = ∑ j : Fin 25, ∑ g : Fin 10, f (finProdFinEquiv (m := 25) (n := 10) (j, g)) := fun f => by
    rw [← (finProdFinEquiv (m := 25) (n := 10)).sum_comp, Fintype.sum_prod_type]
  refine (result_at m c b r s).trans (Eq.trans ?_ (e _).symm)
  refine Finset.sum_congr (M := EReal) rfl fun j _ => ?_
  rw [added_at m c _ r s fun g => (b, finProdFinEquiv (j, g))]
  intro g
  simp only [finProdFinEquiv, Equiv.coe_fn_mk]
  omega

end Cert.KernelIdeal.Layer
-- ==== Proof.RefOps.lean ====
/- The reference's indexed operations, read at an index. -/
module

public import proofs.«01_k».proof.Proof.Host
public import proofs.«01_k».proof.Proof.Gen.ReferenceIdeal.Run
public import Idealize.ShloMosaic.Lib.Pointwise
public import Idealize.ShloMosaic.Lib.Routing.OpsSet
public import Idealize.ShloMosaic.Lib.Routing.OpsPair

@[expose] public section

set_option maxRecDepth 16384

noncomputable section

namespace Cert.ReferenceIdeal.Layer

open Cert.ReferenceIdeal Cert.ReferenceIdeal.Gen Cert.ReferenceIdeal.Value Idealize.ShloMosaic Idealize.ShloMosaic.Routing

/-- The source indices that a reduction of the last of four axes folds at `(a, b, c)`. -/
theorem fiber_last {A B C D : ℕ} (h : (⟨4, ![A, B, C, D]⟩ : Shape).ReducesTo [3] ⟨3, ![A, B, C]⟩) (a : Fin A) (b : Fin B) (c : Fin C)
    (i : (⟨4, ![A, B, C, D]⟩ : Shape).Idx) : h.drop i = ix3 a b c ↔ ∃ k : Fin D, ix4 a b c k = i := by
  constructor
  · intro e
    refine ⟨i 3, ?_⟩
    funext x
    apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
  · rintro ⟨k, rfl⟩
    funext x
    apply Fin.ext
    match x with
    | ⟨0, _⟩ => rfl
    | ⟨1, _⟩ => rfl
    | ⟨2, _⟩ => rfl

/-- A reduction of the last of four axes by a commutative and associative operation. -/
theorem reduce_last {A B C D : ℕ} {α : Type} (f : α → α → α) [Std.Commutative f] [Std.Associative f]
    (x : (⟨4, ![A, B, C, D]⟩ : Shape).Idx → α) {u : Shape} (init : u.Idx → α)
    (h : (⟨4, ![A, B, C, D]⟩ : Shape).ReducesTo [3] ⟨3, ![A, B, C]⟩) (hu : 0 < u.numel) (a : Fin A) (b : Fin B) (c : Fin C) :
    Host.reduce f x init h hu (ix3 a b c)
      = (Finset.univ : Finset (Fin D)).fold f (init (Shape.Idx.first hu)) (fun k => x (ix4 a b c k)) := by
  rw [Host.reduce_eq_fold]
  exact Finset.fold_filter_eq_fold_of_fiber f _ (fun k : Fin D => ix4 a b c k)
    (fun _ _ e => congrFun e 3) (fiber_last h a b c) _ x

/-- A small number, as a word read signed. -/
theorem toInt_small (n : ℕ) (h : n < 2147483648) : (BitVec.ofNat 32 n).toInt = (n : Int) := by
  rw [BitVec.toInt_eq_toNat_of_lt (by rw [BitVec.toNat_ofNat, Nat.mod_eq_of_lt (by omega)]; omega), BitVec.toNat_ofNat,
    Nat.mod_eq_of_lt (by omega)]

/-- The keys gathered at a table of positions. -/
theorem gather_keys {α : Type} (x : S1000x8x96x16.Idx → α) (idx : IVec S96x15x1 32) (n : Fin 1000) (h : Fin 8) (s : Fin 96) (i : Fin 15)
    (d : Fin 16) (p : Fin 96) (hp : idx (ix3 s i 0) = BitVec.ofNat 32 p.val) :
    Host.gather gather_S1000x8x96x16_S96x15x1_S1000x8x96x15x16_014_2_n_n_2_2_10008116 x idx (ix5 n h s i d) = x (ix4 n h p d) := by
  unfold Host.gather
  congr 1
  funext a
  apply Fin.ext
  match a with
  | ⟨0, _⟩ => exact Nat.zero_add _
  | ⟨1, _⟩ => exact Nat.zero_add _
  | ⟨2, _⟩ =>
    have e : gather_S1000x8x96x16_S96x15x1_S1000x8x96x15x16_014_2_n_n_2_2_10008116.siIdx (ix5 n h s i d) ⟨0, by decide⟩ = ix3 s i 0 := by
      funext b
      match b with
      | ⟨0, _⟩ => rfl
      | ⟨1, _⟩ => rfl
      | ⟨2, _⟩ => rfl
    show min (idx (gather_S1000x8x96x16_S96x15x1_S1000x8x96x15x16_014_2_n_n_2_2_10008116.siIdx (ix5 n h s i d) ⟨0, by decide⟩)).toInt.toNat 95 + 0 + 0 = p.val
    rw [e, hp, toInt_small _ (by omega)]
    have := p.isLt
    omega
  | ⟨3, _⟩ => exact Nat.zero_add _

/-- The queries gathered at each head's own positions. -/
theorem gather_queries {α : Type} (x : S1000x8x96x16.Idx → α) (idx : IVec S1000x8x15x1 32) (n : Fin 1000) (h : Fin 8) (i : Fin 15)
    (d : Fin 16) (p : Fin 96) (hp : idx (ix4 n h i 0) = BitVec.ofNat 32 p.val) :
    Host.gather gather_S1000x8x96x16_S1000x8x15x1_S1000x8x15x16_3_2_01_01_2_3_11116 x idx (ix4 n h i d) = x (ix4 n h p d) := by
  unfold Host.gather
  congr 1
  funext a
  apply Fin.ext
  match a with
  | ⟨0, _⟩ => exact Nat.zero_add _
  | ⟨1, _⟩ => exact Nat.zero_add _
  | ⟨2, _⟩ =>
    have e : gather_S1000x8x96x16_S1000x8x15x1_S1000x8x15x16_3_2_01_01_2_3_11116.siIdx (ix4 n h i d) ⟨0, by decide⟩ = ix4 n h i 0 := by
      funext b
      match b with
      | ⟨0, _⟩ => rfl
      | ⟨1, _⟩ => rfl
      | ⟨2, _⟩ => rfl
      | ⟨3, _⟩ => rfl
    show min (idx (gather_S1000x8x96x16_S1000x8x15x1_S1000x8x15x16_3_2_01_01_2_3_11116.siIdx (ix4 n h i d) ⟨0, by decide⟩)).toInt.toNat 95 + 0 + 0 = p.val
    rw [e, hp, toInt_small _ (by omega)]
    have := p.isLt
    omega
  | ⟨3, _⟩ => exact Nat.zero_add _

/-- Where an update of the scatter lands. -/
theorem lands (idx : IVec S1000x8x15x3 32) (n n' : Fin 1000) (h h' : Fin 8) (i : Fin 15) (t : Fin 96) (d d' : Fin 16)
    (p : Fin 96)
    (h0 : idx (ix4 n h i 0) = BitVec.ofNat 32 n.val) (h1 : idx (ix4 n h i 1) = BitVec.ofNat 32 h.val)
    (h2 : idx (ix4 n h i 2) = BitVec.ofNat 32 p.val) :
    scatter_S1000x8x96x16_S1000x8x15x3_S1000x8x15x16_3_012_012_3.resultIdx? (ix4 n h i d) idx = some (ix4 n' h' t d')
      ↔ n = n' ∧ h = h' ∧ p = t ∧ d = d' := by
  rw [resultIdx?_eq_some]
  have e : ∀ k : Fin 3, scatter_S1000x8x96x16_S1000x8x15x3_S1000x8x15x16_3_012_012_3.siIdx (ix4 n h i d) ⟨k.val, k.isLt⟩ = ix4 n h i k := by
    intro k
    funext b
    match b with
    | ⟨0, _⟩ => rfl
    | ⟨1, _⟩ => rfl
    | ⟨2, _⟩ => rfl
    | ⟨3, _⟩ => rfl
  have s0 : scatter_S1000x8x96x16_S1000x8x15x3_S1000x8x15x16_3_012_012_3.start (ix4 n h i d) idx 0 = (n.val : Int) := by
    show (idx (scatter_S1000x8x96x16_S1000x8x15x3_S1000x8x15x16_3_012_012_3.siIdx (ix4 n h i d) ⟨0, by decide⟩)).toInt = _
    rw [show scatter_S1000x8x96x16_S1000x8x15x3_S1000x8x15x16_3_012_012_3.siIdx (ix4 n h i d) ⟨0, by decide⟩ = ix4 n h i 0 from e 0, h0,
      toInt_small _ (by omega)]
  have s1 : scatter_S1000x8x96x16_S1000x8x15x3_S1000x8x15x16_3_012_012_3.start (ix4 n h i d) idx 1 = (h.val : Int) := by
    show (idx (scatter_S1000x8x96x16_S1000x8x15x3_S1000x8x15x16_3_012_012_3.siIdx (ix4 n h i d) ⟨1, by decide⟩)).toInt = _
    rw [show scatter_S1000x8x96x16_S1000x8x15x3_S1000x8x15x16_3_012_012_3.siIdx (ix4 n h i d) ⟨1, by decide⟩ = ix4 n h i 1 from e 1, h1,
      toInt_small _ (by omega)]
  have s2 : scatter_S1000x8x96x16_S1000x8x15x3_S1000x8x15x16_3_012_012_3.start (ix4 n h i d) idx 2 = (p.val : Int) := by
    show (idx (scatter_S1000x8x96x16_S1000x8x15x3_S1000x8x15x16_3_012_012_3.siIdx (ix4 n h i d) ⟨2, by decide⟩)).toInt = _
    rw [show scatter_S1000x8x96x16_S1000x8x15x3_S1000x8x15x16_3_012_012_3.siIdx (ix4 n h i d) ⟨2, by decide⟩ = ix4 n h i 2 from e 2, h2,
      toInt_small _ (by omega)]
  have s3 : scatter_S1000x8x96x16_S1000x8x15x3_S1000x8x15x16_3_012_012_3.start (ix4 n h i d) idx 3 = 0 := rfl
  have w0 : scatter_S1000x8x96x16_S1000x8x15x3_S1000x8x15x16_3_012_012_3.window (ix4 n h i d) 0 = 0 := rfl
  have w1 : scatter_S1000x8x96x16_S1000x8x15x3_S1000x8x15x16_3_012_012_3.window (ix4 n h i d) 1 = 0 := rfl
  have w2 : scatter_S1000x8x96x16_S1000x8x15x3_S1000x8x15x16_3_012_012_3.window (ix4 n h i d) 2 = 0 := rfl
  have w3 : scatter_S1000x8x96x16_S1000x8x15x3_S1000x8x15x16_3_012_012_3.window (ix4 n h i d) 3 = d.val := rfl
  constructor
  · intro H
    have a0 := H 0
    have a1 := H 1
    have a2 := H 2
    have a3 := H 3
    rw [s0, w0] at a0
    rw [s1, w1] at a1
    rw [s2, w2] at a2
    rw [s3, w3] at a3
    have b0 : (n.val : Int) + 0 = n'.val := a0
    have b1 : (h.val : Int) + 0 = h'.val := a1
    have b2 : (p.val : Int) + 0 = t.val := a2
    have b3 : (0 : Int) + d.val = d'.val := a3
    exact ⟨Fin.ext (by omega), Fin.ext (by omega), Fin.ext (by omega), Fin.ext (by omega)⟩
  · rintro ⟨rfl, rfl, rfl, rfl⟩ a
    match a with
    | ⟨0, _⟩ => exact (congrArg₂ (fun (u : Int) (v : ℕ) => u + v) s0 w0).trans (add_zero _)
    | ⟨1, _⟩ => exact (congrArg₂ (fun (u : Int) (v : ℕ) => u + v) s1 w1).trans (add_zero _)
    | ⟨2, _⟩ => exact (congrArg₂ (fun (u : Int) (v : ℕ) => u + v) s2 w2).trans (add_zero _)
    | ⟨3, _⟩ => exact (congrArg₂ (fun (u : Int) (v : ℕ) => u + v) s3 w3).trans (zero_add _)

/-- The last of three coordinates replaced. -/
theorem along_last {A B C : ℕ} (a : Fin A) (b : Fin B) (c k : Fin C) :
    Shape.Idx.along (s := ⟨3, ![A, B, C]⟩) (ix3 a b c) (⟨2, Nat.lt_succ_self 2⟩ : Fin 3) k = ix3 a b k := by
  funext x
  match x with
  | ⟨0, _⟩ => rfl
  | ⟨1, _⟩ => rfl
  | ⟨2, _⟩ => rfl

/-- A sort along the last of three axes, its second operand read at an index. -/
theorem sort_last {A B C : ℕ} {α β : Type} (cmp : α × β → α × β → BitVec 1) (x : (⟨3, ![A, B, C]⟩ : Shape).Idx → α)
    (y : (⟨3, ![A, B, C]⟩ : Shape).Idx → β) (a : Fin A) (b : Fin B) (c : Fin C) :
    (Host.sort2 ⟨3, ![A, B, C]⟩ 2 cmp x y).2 (ix3 a b c)
      = y (ix3 a b (sortedFrom (fun k k' => cmp (x (ix3 a b k), y (ix3 a b k)) (x (ix3 a b k'), y (ix3 a b k')) == 1#1) c)) := by
  unfold Host.sort2
  rw [dif_pos (show 2 < (⟨3, ![A, B, C]⟩ : Shape).rank from (by decide : 2 < 3))]
  refine (congrArg y (along_last a b c _)).trans ?_
  refine congrArg (fun k => y (ix3 a b k)) (congrArg (fun f : Fin C → Fin C → Bool => sortedFrom f c) ?_)
  funext k k'
  exact congrArg₂ (fun u v => cmp (x u, y u) (x v, y v) == 1#1) (along_last a b c k) (along_last a b c k')

/-- The positions of the greatest values of the last of three axes, the earlier first among equals. -/
theorem top_at {A B C K : ℕ} (x : FVec Ideal ⟨3, ![A, B, C]⟩ .f32)
    (h : (⟨3, ![A, B, C]⟩ : Shape).Slices (fun _ => 0) ⟨3, ![A, B, K]⟩) (a : Fin A) (b : Fin B) (i : Fin K) (hi : i.val < C) :
    (Host.topK ⟨3, ![A, B, K]⟩ 2 (FloatOps.cmpfTotal .gt) x h).2 (ix3 a b i)
      = BitVec.ofNat 32 (sortedFrom (Rank.above fun s => (x (ix3 a b s) : EReal)) ⟨i.val, hi⟩).val := by
  unfold Host.topK
  dsimp only
  have hs : ∀ v : IVec ⟨3, ![A, B, C]⟩ 32, extractStridedSlice ⟨3, ![A, B, K]⟩ (fun _ => 0) v h (ix3 a b i)
      = v (ix3 a b ⟨i.val, hi⟩) := fun v => congrArg v (by
    funext a
    apply Fin.ext
    match a with
    | ⟨0, _⟩ => exact Nat.zero_add _
    | ⟨1, _⟩ => exact Nat.zero_add _
    | ⟨2, _⟩ => exact Nat.zero_add _)
  refine (hs _).trans ((sort_last _ _ _ a b _).trans ?_)
  rw [dif_pos (show 2 < (⟨3, ![A, B, C]⟩ : Shape).rank from (by decide : 2 < 3))]
  show BitVec.ofNat 32 (sortedFrom _ _ : Fin C).val = _
  refine congrArg (fun f : Fin C → Fin C → Bool => BitVec.ofNat 32 (sortedFrom f ⟨i.val, hi⟩).val) ?_
  funext k k'
  show (BitVec.ofBool (decide (x (ix3 a b k') < x (ix3 a b k))) == 1#1) = decide ((x (ix3 a b k') : EReal) < x (ix3 a b k))
  cases decide ((x (ix3 a b k') : EReal) < x (ix3 a b k)) <;> rfl

end Cert.ReferenceIdeal.Layer
-- ==== Proof.RowR.lean ====
/- The reference on one row: its arrays hold the values of the plain layer. -/
module

public import proofs.«01_k».proof.Proof.RefOps

@[expose] public section

set_option maxRecDepth 16384

noncomputable section

namespace Cert.ReferenceIdeal.Layer

open Cert.ReferenceIdeal Cert.ReferenceIdeal.Gen Cert.ReferenceIdeal.Value Idealize.ShloMosaic Idealize.ShloMosaic.Routing

/-- A sum over the last of four axes. -/
theorem sum_last {A B C D : ℕ} (x : FVec Ideal ⟨4, ![A, B, C, D]⟩ .f32)
    (h : (⟨4, ![A, B, C, D]⟩ : Shape).ReducesTo [3] ⟨3, ![A, B, C]⟩) (a : Fin A) (b : Fin B) (c : Fin C) :
    (Host.reduceAdd x (constant S_ .f32 0x00000000#32) h h_S_ (ix3 a b c) : EReal) = ∑ k : Fin D, x (ix4 a b c k) := by
  pointwise

/-- A maximum over the last of four axes. -/
theorem max_last {A B C D : ℕ} (x : FVec Ideal ⟨4, ![A, B, C, D]⟩ .f32)
    (h : (⟨4, ![A, B, C, D]⟩ : Shape).ReducesTo [3] ⟨3, ![A, B, C]⟩) (a : Fin A) (b : Fin B) (c : Fin C) :
    (Host.reduce (FloatOps.maximumf (F := Ideal) (φ := .f32)) x (constant (F := Ideal) S_ .f32 0xFF800000#32) h h_S_ (ix3 a b c) : EReal)
      = Finset.fold max (Ideal.ofBits .f32 0xFF800000#32) (fun k : Fin D => (x (ix4 a b c k) : EReal)) Finset.univ :=
  reduce_last (fun u v : EReal => max u v) x (constant (F := Ideal) S_ .f32 0xFF800000#32) h h_S_ a b c

/-- A maximum less a ninety-sixth of a sum. -/
theorem measure_read (y z : FVec Ideal S1000x8x96 .f32) (n : Fin 1000) (h : Fin 8) (s : Fin 96) :
    (subf y (Host.divf z (broadcastInDim S1000x8x96 ![] bcast_S_S1000x8x96 (constant S_ .f32 0x42C00000#32))) (ix3 n h s) : EReal)
      = y (ix3 n h s) - Ideal.div (z (ix3 n h s)) (Ideal.ofBits .f32 0x42C00000#32) := by
  pointwise

/-- The exponentials of an array of scores less their maxima. -/
theorem exp_read (x : FVec Ideal S1000x8x15x96 .f32) (y : FVec Ideal S1000x8x15 .f32) (n : Fin 1000) (h : Fin 8) (i : Fin 15) (t : Fin 96) :
    (Host.exp (subf x (broadcastInDim S1000x8x15x96 ![0, 1, 2, 3] bcast_S1000x8x15x1_S1000x8x15x96_0_1_2_3 (broadcastInDim S1000x8x15x1 ![0, 1, 2] bcast_S1000x8x15_S1000x8x15x1_0_1_2 (maximumf (broadcastInDim S1000x8x15 ![] bcast_S_S1000x8x15 (constant S_ .f32 0xFF800000#32)) y)))) (ix4 n h i t) : EReal)
      = Ideal.exp (x (ix4 n h i t) - y (ix3 n h i)) := by
  pointwise
  rw [Cert.KernelIdeal.Layer.bits_bot, max_eq_right bot_le]

/-- A word that holds a position is in range. -/
theorem range_read (w : IVec S1000x8x15x1 32) (n : Fin 1000) (h : Fin 8) (i : Fin 15)
    (p : Fin 96) (hw : w (ix4 n h i 0) = BitVec.ofNat 32 p.val) :
    Finset.fold IntOp.andi (1#1) (fun x => IntOp.andi (IntOp.cmpi CmpIPredicate.sge (w x) 0#32) (IntOp.cmpi CmpIPredicate.sle (w x) 95#32))
      {j | reducesTo_S1000x8x15x1_S1000x8x15_d3.drop j = ix3 n h i} = 1#1 := by
  refine (Finset.fold_filter_eq_fold_of_fiber IntOp.andi _ (fun k : Fin 1 => ix4 n h i k) (fun _ _ e => congrFun e 3)
    (fiber_last reducesTo_S1000x8x15x1_S1000x8x15_d3 n h i) _ _).trans ?_
  rw [Finset.univ_unique, Finset.fold_singleton]
  have e : ∀ p : Fin 96, IntOp.andi (IntOp.andi (IntOp.cmpi .sge (BitVec.ofNat 32 p.val) 0#32) (IntOp.cmpi .sle (BitVec.ofNat 32 p.val) 95#32)) 1#1 = 1#1 := by
    decide
  refine Eq.trans ?_ (e p)
  rw [← hw]
  rfl

variable (V : Valuation τ sig (Elt Ideal))

/-- The layer's parameters, from the program's arguments. -/
def params : Spec.Par :=
  Spec.Par.of (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18))

/-- Row `n` of the thousand. -/
def row (n : Fin 1000) (t : Fin 96) : EReal :=
  (V (Proc.devRef .tc main_arg0) : Vec Ideal S1x4x250x96 .f32) (ix4 0 ⟨n.val / 250, by omega⟩ ⟨n.val % 250, Nat.mod_lt _ (by decide)⟩ t)

/-- The embedding. -/
theorem hid_at (n : Fin 1000) (t : Fin 96) (j : Fin 128) : (res_main_v9 V (ix3 n t j) : EReal) = Spec.hid (params V) (row V n) t j := by
  pointwise [res_main_v9]
  rfl

theorem col_eq (h : Fin 8) (d : Fin 16) (hl : h.val * 16 + d.val < 128) : (⟨h.val * 16 + d.val, hl⟩ : Fin 128) = Spec.col h d :=
  Fin.ext (by simp [Spec.col]; omega)

theorem q_at (n : Fin 1000) (h : Fin 8) (t : Fin 96) (d : Fin 16) :
    (res_main_v16 V (ix4 n h t d) : EReal) = Spec.q (params V) (row V n) t (Spec.col h d) := by
  have hl : h.val * 16 + d.val < 128 := by omega
  refine Eq.trans ?_ (congrArg (Spec.q (params V) (row V n) t) (col_eq h d hl))
  pointwise [res_main_v16]
  exact congrArg₂ (fun x y : EReal => x + y) (Finset.sum_congr (M := EReal) rfl fun i _ => congrArg (fun x : EReal => x * _) (hid_at V n t i)) rfl

theorem k_at (n : Fin 1000) (h : Fin 8) (t : Fin 96) (d : Fin 16) :
    (res_main_v23 V (ix4 n h t d) : EReal) = Spec.k (params V) (row V n) t (Spec.col h d) := by
  have hl : h.val * 16 + d.val < 128 := by omega
  refine Eq.trans ?_ (congrArg (Spec.k (params V) (row V n) t) (col_eq h d hl))
  pointwise [res_main_v23]
  exact congrArg₂ (fun x y : EReal => x + y) (Finset.sum_congr (M := EReal) rfl fun i _ => congrArg (fun x : EReal => x * _) (hid_at V n t i)) rfl

theorem v_at (n : Fin 1000) (h : Fin 8) (t : Fin 96) (d : Fin 16) :
    (res_main_v30 V (ix4 n h t d) : EReal) = Spec.v (params V) (row V n) t (Spec.col h d) := by
  have hl : h.val * 16 + d.val < 128 := by omega
  refine Eq.trans ?_ (congrArg (Spec.v (params V) (row V n) t) (col_eq h d hl))
  pointwise [res_main_v30]
  exact congrArg₂ (fun x y : EReal => x + y) (Finset.sum_congr (M := EReal) rfl fun i _ => congrArg (fun x : EReal => x * _) (hid_at V n t i)) rfl

/-- The sampled scores. -/
theorem sampled_at (n : Fin 1000) (h : Fin 8) (s : Fin 96) (i : Fin 15) :
    (res_main_v38 V (ix4 n h s i) : EReal) = Spec.score (params V) (row V n) h s (Sample.sample s i) := by
  pointwise [res_main_v38]
  refine Finset.sum_congr (M := EReal) rfl fun d _ => ?_
  refine (congrArg₂ (fun u v : EReal => u * v) (q_at V n h s d) ((gather_keys _ _ n h s i d (Sample.sample s i) ?_).trans (k_at V n h _ d)))
  pointwise [res_main_c]
  have e : lit0 (S96x15.rowMajor (ix2 s i)) = BitVec.ofNat 32 (Sample.sample s i).val :=
    (congrArg lit0 (Fin.ext (Shape.rowMajor_val_two _))).trans (Sample.entry s i)
  rw [e, wrap_of_lt _ _ (by rw [BitVec.toNat_ofNat]; omega)]

/-- The measures. -/
theorem ms_at (n : Fin 1000) (h : Fin 8) (s : Fin 96) :
    (res_main_v43 V (ix3 n h s) : EReal) = Spec.ms (params V) Sample.sample (row V n) h s := by
  refine (measure_read _ _ n h s).trans ?_
  refine (congrArg₂ (fun u v : EReal => u - Ideal.div v (Ideal.ofBits .f32 0x42C00000#32)) (max_last (res_main_v38 V) _ n h s)
    (sum_last (res_main_v38 V) _ n h s)).trans ?_
  simp only [sampled_at]
  rfl

/-- The `i`-th chosen query of head `h`. -/
def top (n : Fin 1000) (h : Fin 8) (i : Fin 15) : Fin 96 :=
  sortedFrom (Rank.above (Spec.ms (params V) Sample.sample (row V n) h)) ⟨i.val, by omega⟩

/-- The chosen queries. -/
theorem indices_at (n : Fin 1000) (h : Fin 8) (i : Fin 15) : res_main_indices V (ix3 n h i) = BitVec.ofNat 32 (top V n h i).val := by
  refine (top_at (res_main_v43 V) sliceFits_S1000x8x96_S1000x8x15 n h i (by omega)).trans ?_
  have e : (fun s => (res_main_v43 V (ix3 n h s) : EReal)) = Spec.ms (params V) Sample.sample (row V n) h := funext fun s => ms_at V n h s
  rw [e]
  rfl

/-- The words that the queries are gathered at. -/
theorem words_at (n : Fin 1000) (h : Fin 8) (i : Fin 15) : res_main_call0_v4 V (ix4 n h i 0) = BitVec.ofNat 32 (top V n h i).val := by
  pointwise [res_main_call0_v4, res_main_v44]
  rw [indices_at, wrap_of_lt _ _ (by rw [BitVec.toNat_ofNat]; have := (top V n h i).isLt; omega)]

/-- The scores of a chosen query. -/
theorem chosen_at (n : Fin 1000) (h : Fin 8) (i : Fin 15) (t : Fin 96) :
    (res_main_v48 V (ix4 n h i t) : EReal) = Spec.score (params V) (row V n) h (top V n h i) t * Ideal.ofBits .f32 0x3E800000#32 := by
  pointwise [res_main_v48]
  refine congrArg (fun u : EReal => u * Ideal.ofBits .f32 0x3E800000#32) ?_
  refine Finset.sum_congr (M := EReal) rfl fun d _ => ?_
  refine congrArg₂ (fun u v : EReal => u * v) ((congrArg (fun b => Scalar.select b _ _) (range_read (res_main_call0_v4 V) n h i _ (words_at V n h i))).trans ?_) (k_at V n h t d)
  exact ((gather_queries _ _ n h i d _ (words_at V n h i)).trans (q_at V n h _ d))

/-- The exponentials of a chosen query. -/
theorem exps_at (n : Fin 1000) (h : Fin 8) (i : Fin 15) (t : Fin 96) :
    (res_main_v55 V (ix4 n h i t) : EReal) =
      Ideal.exp (Spec.score (params V) (row V n) h (top V n h i) t * Ideal.ofBits .f32 0x3E800000#32
        - Finset.fold max (Ideal.ofBits .f32 0xFF800000#32)
          (fun u => Spec.score (params V) (row V n) h (top V n h i) u * Ideal.ofBits .f32 0x3E800000#32) Finset.univ) := by
  refine (exp_read (res_main_v48 V) _ n h i t).trans ?_
  refine (congrArg (fun u : EReal => Ideal.exp ((show EReal from res_main_v48 V (ix4 n h i t)) - u)) (max_last (res_main_v48 V) _ n h i)).trans ?_
  simp only [chosen_at]

/-- The scatter's indices. -/
def places : IVec S1000x8x15x3 32 :=
  ((concatenate S1000x8x15x3 3 [⟨S1000x8x15x1, ((broadcastInDim S1000x8x15x1 ![0, 1, 2] bcast_S1000x8x15_S1000x8x15x1_0_1_2 (broadcastInDim S1000x8x15 ![0, 1, 2] bcast_S1000x1x1_S1000x8x15_0_1_2 (select (cmpi .slt (res_main_v67 V : IVec S1000x1x1 32) (broadcastInDim S1000x1x1 ![] bcast_S_S1000x1x1 (constantI S_ 32 0#32))) (addi (res_main_v67 V : IVec S1000x1x1 32) (broadcastInDim S1000x1x1 ![] bcast_S_S1000x1x1 (constantI S_ 32 1000#32))) (res_main_v67 V : IVec S1000x1x1 32)))) : (⟨S1000x8x15x1, .i32⟩ : BufTy).Contents (Elt Ideal))⟩, ⟨S1000x8x15x1, ((broadcastInDim S1000x8x15x1 ![0, 1, 2] bcast_S1000x8x15_S1000x8x15x1_0_1_2 (broadcastInDim S1000x8x15 ![0, 1, 2] bcast_S1x8x1_S1000x8x15_0_1_2 (select (cmpi .slt (res_main_v69 V : IVec S1x8x1 32) (broadcastInDim S1x8x1 ![] bcast_S_S1x8x1 (constantI S_ 32 0#32))) (addi (res_main_v69 V : IVec S1x8x1 32) (broadcastInDim S1x8x1 ![] bcast_S_S1x8x1 (constantI S_ 32 8#32))) (res_main_v69 V : IVec S1x8x1 32)))) : (⟨S1000x8x15x1, .i32⟩ : BufTy).Contents (Elt Ideal))⟩, ⟨S1000x8x15x1, ((broadcastInDim S1000x8x15x1 ![0, 1, 2] bcast_S1000x8x15_S1000x8x15x1_0_1_2 (select (cmpi .slt (res_main_indices V : IVec S1000x8x15 32) (broadcastInDim S1000x8x15 ![] bcast_S_S1000x8x15 (constantI S_ 32 0#32))) (addi (res_main_indices V : IVec S1000x8x15 32) (broadcastInDim S1000x8x15 ![] bcast_S_S1000x8x15 (constantI S_ 32 96#32))) (res_main_indices V : IVec S1000x8x15 32))) : (⟨S1000x8x15x1, .i32⟩ : BufTy).Contents (Elt Ideal))⟩] concatenates_S1000x8x15x1_S1000x8x15x1_S1000x8x15x1_S1000x8x15x3_d3 : (⟨S1000x8x15x3, .i32⟩ : BufTy).Contents (Elt Ideal)))

/-- The scatter's updates. -/
def updates : FVec Ideal S1000x8x15x16 .f32 :=
  (Host.dotGeneral dot_S1000x8x15x96_S1000x8x96x16_S1000x8x15x16_3_2_2_3_01_01 (φ₂ := .f32) none (Host.divf (res_main_v55 V : FVec Ideal S1000x8x15x96 .f32) (broadcastInDim S1000x8x15x96 ![0, 1, 2, 3] bcast_S1000x8x15x1_S1000x8x15x96_0_1_2_3 (broadcastInDim S1000x8x15x1 ![0, 1, 2] bcast_S1000x8x15_S1000x8x15x1_0_1_2 (Host.reduceAdd (res_main_v55 V : FVec Ideal S1000x8x15x96 .f32) (constant S_ .f32 0x00000000#32) reducesTo_S1000x8x15x96_S1000x8x15_d3 h_S_)))) (res_main_v30 V : FVec Ideal S1000x8x96x16 .f32))

/-- The means the scatter writes over. -/
def means : FVec Ideal S1000x8x96x16 .f32 :=
  (broadcastInDim S1000x8x96x16 ![0, 1, 2, 3] bcast_S1000x8x1x16_S1000x8x96x16_0_1_2_3 (Host.divf (broadcastInDim S1000x8x1x16 ![0, 1, 3] bcast_S1000x8x16_S1000x8x1x16_0_1_3 (Host.reduceAdd (res_main_v30 V : FVec Ideal S1000x8x96x16 .f32) (constant S_ .f32 0x00000000#32) reducesTo_S1000x8x96x16_S1000x8x16_d2 h_S_)) (broadcastInDim S1000x8x1x16 ![] bcast_S_S1000x8x1x16 (constant S_ .f32 0x42C00000#32))))

/-- The heads' contexts. -/
def heads : FVec Ideal S1000x8x96x16 .f32 := Host.scatter scatter_S1000x8x96x16_S1000x8x15x3_S1000x8x15x16_3_012_012_3 (fun _ b => b) (means V) (places V) (updates V)

/-- The updates: attention for the chosen queries. -/
theorem updates_at (n : Fin 1000) (h : Fin 8) (i : Fin 15) (d : Fin 16) :
    (updates V (ix4 n h i d) : EReal) =
      ∑ t, Spec.soft (Spec.score (params V) (row V n) h (top V n h i)) t * Spec.v (params V) (row V n) t (Spec.col h d) := by
  pointwise [updates]
  simp only [exps_at, v_at]
  rfl

/-- The means. -/
theorem means_at (n : Fin 1000) (h : Fin 8) (t : Fin 96) (d : Fin 16) :
    (means V (ix4 n h t d) : EReal) =
      Ideal.div (∑ s, Spec.v (params V) (row V n) s (Spec.col h d)) (Ideal.ofBits .f32 0x42C00000#32) := by
  pointwise [means]
  simp only [v_at]

/-- Where the updates go. -/
theorem places_at (n : Fin 1000) (h : Fin 8) (i : Fin 15) :
    places V (ix4 n h i 0) = BitVec.ofNat 32 n.val ∧ places V (ix4 n h i 1) = BitVec.ofNat 32 h.val ∧
      places V (ix4 n h i 2) = BitVec.ofNat 32 (top V n h i).val := by
  refine ⟨?_, ?_, ?_⟩
  · pointwise [places, res_main_v67]
    rw [wrap_of_lt _ _ (by rw [BitVec.toNat_ofNat]; omega)]
  · pointwise [places, res_main_v69]
    rw [wrap_of_lt _ _ (by rw [BitVec.toNat_ofNat]; omega)]
  · pointwise [places]
    rw [indices_at, wrap_of_lt _ _ (by rw [BitVec.toNat_ofNat]; omega)]

/-- A head's context: attention for the chosen queries, the mean for the others. -/
theorem heads_at (n : Fin 1000) (h : Fin 8) (t : Fin 96) (d : Fin 16) :
    (heads V (ix4 n h t d) : EReal) = Spec.ctx (params V) Sample.sample (row V n) t (Spec.col h d) := by
  have hh : Spec.headOf (Spec.col h d) = h := Fin.ext (by simp [Spec.headOf, Spec.col]; omega)
  have land : ∀ (n' : Fin 1000) (h' : Fin 8) (i : Fin 15) (d' : Fin 16),
      scatter_S1000x8x96x16_S1000x8x15x3_S1000x8x15x16_3_012_012_3.resultIdx? (ix4 n' h' i d') (places V) = some (ix4 n h t d)
        ↔ n' = n ∧ h' = h ∧ top V n' h' i = t ∧ d' = d := fun n' h' i d' =>
    lands (places V) n' n h' h i t d' d (top V n' h' i) (places_at V n' h' i).1 (places_at V n' h' i).2.1 (places_at V n' h' i).2.2
  unfold Spec.ctx
  rw [hh]
  by_cases hr : Rank.rank (Spec.ms (params V) Sample.sample (row V n) h) t < 15
  · rw [if_pos hr]
    obtain ⟨i, hi, e⟩ := (Rank.rank_lt_iff _ 15 t).mp hr
    refine scatter_set_hit _ _ _ _ _ _ ?_ (ix4 n h ⟨i.val, hi⟩ d) ((land _ _ _ _).mpr ⟨rfl, rfl, e, rfl⟩)
    have g : ∀ (n' : Fin 1000) (h' : Fin 8) (i : Fin 15) (d' : Fin 16),
        scatter_S1000x8x96x16_S1000x8x15x3_S1000x8x15x16_3_012_012_3.resultIdx? (ix4 n' h' i d') (places V) = some (ix4 n h t d) →
          (updates V (ix4 n' h' i d') : EReal) =
            ∑ s, Spec.soft (Spec.score (params V) (row V n) h t) s * Spec.v (params V) (row V n) s (Spec.col h d) := by
      intro n' h' i d' hk
      obtain ⟨rfl, rfl, e, rfl⟩ := (land _ _ _ _).mp hk
      rw [updates_at, e]
    intro k hk
    rw [eq_ix4 k] at hk ⊢
    exact g _ _ _ _ hk
  · rw [if_neg hr]
    refine (scatter_set_miss _ _ _ _ _ ?_).trans (means_at V n h t d)
    have g : ∀ (n' : Fin 1000) (h' : Fin 8) (i : Fin 15) (d' : Fin 16),
        scatter_S1000x8x96x16_S1000x8x15x3_S1000x8x15x16_3_012_012_3.resultIdx? (ix4 n' h' i d') (places V) ≠ some (ix4 n h t d) := by
      intro n' h' i d' hk
      obtain ⟨rfl, rfl, e, rfl⟩ := (land _ _ _ _).mp hk
      exact hr ((Rank.rank_lt_iff _ 15 t).mpr ⟨⟨i.val, by omega⟩, i.isLt, e⟩)
    intro k
    rw [eq_ix4 k]
    exact g _ _ _ _

end Cert.ReferenceIdeal.Layer
-- ==== Proof.RefOut.lean ====
/- The reference's result: the sum over the rows of the plain layer's output. -/
module

public import proofs.«01_k».proof.Proof.RowR

@[expose] public section

set_option maxRecDepth 16384

noncomputable section

namespace Cert.ReferenceIdeal.Layer

open Cert.ReferenceIdeal Cert.ReferenceIdeal.Gen Cert.ReferenceIdeal.Value Idealize.ShloMosaic Idealize.ShloMosaic.Routing

/-- The mean over the channels of an array. -/
def meanOf (x : FVec Ideal S1000x96x128 .f32) : FVec Ideal S1000x96x1 .f32 :=
  Host.divf (broadcastInDim S1000x96x1 ![0, 1] bcast_S1000x96_S1000x96x1_0_1 (Host.reduceAdd x (constant S_ .f32 0x00000000#32) reducesTo_S1000x96x128_S1000x96_d2 h_S_)) (broadcastInDim S1000x96x1 ![] bcast_S_S1000x96x1 (constant S_ .f32 0x43000000#32))

/-- An array less its mean. -/
def centred (x : FVec Ideal S1000x96x128 .f32) : FVec Ideal S1000x96x128 .f32 :=
  subf x (broadcastInDim S1000x96x128 ![0, 1, 2] bcast_S1000x96x1_S1000x96x128_0_1_2 (meanOf x))

/-- An array normalised over its channels. -/
def normed (x : FVec Ideal S1000x96x128 .f32) (g b : FVec Ideal S128 .f32) : FVec Ideal S1000x96x128 .f32 :=
  addf (mulf (Host.divf (centred x) (broadcastInDim S1000x96x128 ![0, 1, 2] bcast_S1000x96x1_S1000x96x128_0_1_2 (Host.sqrt (addf (meanOf (mulf (centred x) (centred x))) (broadcastInDim S1000x96x1 ![] bcast_S_S1000x96x1 (constant S_ .f32 0x3727C5AC#32)))))) (broadcastInDim S1000x96x128 ![0, 1, 2] bcast_S1x1x128_S1000x96x128_0_1_2 (broadcastInDim S1x1x128 ![2] bcast_S128_S1x1x128_2 g))) (broadcastInDim S1000x96x128 ![0, 1, 2] bcast_S1x1x128_S1000x96x128_0_1_2 (broadcastInDim S1x1x128 ![2] bcast_S128_S1x1x128_2 b))

/-- The mean is an average over 128 channels. -/
theorem mean_at (x : FVec Ideal S1000x96x128 .f32) (n : Fin 1000) (t : Fin 96) :
    (meanOf x (ix3 n t 0) : EReal) = Ideal.div (∑ i : Fin 128, x (ix3 n t i)) (Ideal.ofBits .f32 0x43000000#32) := by
  pointwise [meanOf]

/-- The centred array. -/
theorem centred_at (x : FVec Ideal S1000x96x128 .f32) (n : Fin 1000) (t : Fin 96) (j : Fin 128) :
    (centred x (ix3 n t j) : EReal) = x (ix3 n t j) - Ideal.div (∑ i : Fin 128, x (ix3 n t i)) (Ideal.ofBits .f32 0x43000000#32) := by
  rw [← mean_at]
  pointwise [centred]

/-- Normalisation, entry by entry. -/
theorem normed_read (c d : FVec Ideal S1000x96x128 .f32) (v : FVec Ideal S1000x96x1 .f32) (g b : FVec Ideal S128 .f32) (n : Fin 1000) (t : Fin 96) (j : Fin 128) :
    (addf (mulf (Host.divf c (broadcastInDim S1000x96x128 ![0, 1, 2] bcast_S1000x96x1_S1000x96x128_0_1_2 (Host.sqrt (addf v (broadcastInDim S1000x96x1 ![] bcast_S_S1000x96x1 (constant S_ .f32 0x3727C5AC#32)))))) (broadcastInDim S1000x96x128 ![0, 1, 2] bcast_S1x1x128_S1000x96x128_0_1_2 (broadcastInDim S1x1x128 ![2] bcast_S128_S1x1x128_2 g))) (broadcastInDim S1000x96x128 ![0, 1, 2] bcast_S1x1x128_S1000x96x128_0_1_2 (broadcastInDim S1x1x128 ![2] bcast_S128_S1x1x128_2 b)) (ix3 n t j) : EReal)
      = Ideal.div (c (ix3 n t j)) (Ideal.sqrt (v (ix3 n t 0) + Ideal.ofBits .f32 0x3727C5AC#32)) * g (ix1 j) + b (ix1 j) := by
  pointwise

/-- A normalised array is the plain layer normalisation of every row. -/
theorem normed_at (x : FVec Ideal S1000x96x128 .f32) (g b : FVec Ideal S128 .f32) (n : Fin 1000) (t : Fin 96) (j : Fin 128) :
    (normed x g b (ix3 n t j) : EReal) = Spec.norm (fun j => x (ix3 n t j)) (fun j => g (ix1 j)) (fun j => b (ix1 j)) j := by
  refine (normed_read (centred x) (centred x) _ g b n t j).trans ?_
  rw [mean_at, centred_at]
  unfold Spec.norm
  refine congrArg (fun s : EReal => Ideal.div _ (Ideal.sqrt (Ideal.div s _ + _)) * _ + _) (Finset.sum_congr (M := EReal) rfl fun k _ => ?_)
  exact congrArg₂ (fun u v : EReal => u * v) (centred_at x n t k) (centred_at x n t k)

/-- An affine map of the rows of an array of contexts, its heads side by side. -/
theorem project_read (x : FVec Ideal S1000x96x128 .f32) (z : FVec Ideal S1000x8x96x16 .f32) (w : FVec Ideal S128x128 .f32) (b : FVec Ideal S128 .f32)
    (n : Fin 1000) (t : Fin 96) (j : Fin 128) :
    (addf x (addf (Host.dotGeneral (φ₂ := .f32) dot_S1000x96x128_S128x128_S1000x96x128_2_0_01_1_n_n none (shapeCast _ (transpose S1000x96x8x16 [0, 2, 1, 3] z transposes_S1000x8x96x16_S1000x96x8x16_0_2_1_3) shapeCasts_S1000x96x8x16_S1000x96x128) (transpose S128x128 [1, 0] w transposes_S128x128_S128x128_1_0)) (broadcastInDim S1000x96x128 ![0, 1, 2] bcast_S1x1x128_S1000x96x128_0_1_2 (broadcastInDim S1x1x128 ![2] bcast_S128_S1x1x128_2 b))) (ix3 n t j) : EReal)
      = x (ix3 n t j) + Spec.lin (fun i : Fin 128 => z (ix4 n ⟨i.val / 16, by omega⟩ t ⟨i.val % 16, by omega⟩)) (fun i o => w (ix2 o i)) (fun o => b (ix1 o)) j := by
  pointwise [Spec.lin]

variable (V : Valuation τ sig (Elt Ideal))

/-- The attention block with its residual. -/
theorem attended_at (n : Fin 1000) (t : Fin 96) (j : Fin 128) :
    (res_main_v99 V (ix3 n t j) : EReal) = Spec.hid (params V) (row V n) t j
      + Spec.lin (Spec.ctx (params V) Sample.sample (row V n) t) (params V).wo (params V).bo j := by
  refine (project_read (res_main_v9 V) (heads V) (V (Proc.devRef .tc main_arg9)) (V (Proc.devRef .tc main_arg10)) n t j).trans ?_
  refine congrArg₂ (fun u v : EReal => u + v) (hid_at V n t j) (congrArg (fun y => Spec.lin y _ _ j) (funext fun i => ?_))
  refine (heads_at V n _ t _).trans ?_
  exact congrArg _ (Fin.ext (by simp [Spec.col]; omega))

/-- The attention block normalised. -/
theorem mid_at (n : Fin 1000) (t : Fin 96) (j : Fin 128) :
    (res_main_v123 V (ix3 n t j) : EReal) = Spec.mid (params V) Sample.sample (row V n) t j := by
  refine (normed_at (res_main_v99 V) (V (Proc.devRef .tc main_arg15)) (V (Proc.devRef .tc main_arg16)) n t j).trans ?_
  exact congrArg (fun y => Spec.norm y _ _ j) (funext fun i => attended_at V n t i)

/-- A two-layer block with its residual. -/
theorem forward_read (x : FVec Ideal S1000x96x128 .f32) (w1 : FVec Ideal S256x128 .f32) (b1 : FVec Ideal S256 .f32) (w2 : FVec Ideal S128x256 .f32) (b2 : FVec Ideal S128 .f32)
    (n : Fin 1000) (t : Fin 96) (j : Fin 128) :
    (addf x (addf (Host.dotGeneral (φ₂ := .f32) dot_S1000x96x256_S256x128_S1000x96x128_2_0_01_1_n_n none (maximumf (addf (Host.dotGeneral (φ₂ := .f32) dot_S1000x96x128_S128x256_S1000x96x256_2_0_01_1_n_n none x (transpose S128x256 [1, 0] w1 transposes_S256x128_S128x256_1_0)) (broadcastInDim S1000x96x256 ![0, 1, 2] bcast_S1x1x256_S1000x96x256_0_1_2 (broadcastInDim S1x1x256 ![2] bcast_S256_S1x1x256_2 b1))) (broadcastInDim S1000x96x256 ![] bcast_S_S1000x96x256 (constant S_ .f32 0x00000000#32))) (transpose S256x128 [1, 0] w2 transposes_S128x256_S256x128_1_0)) (broadcastInDim S1000x96x128 ![0, 1, 2] bcast_S1x1x128_S1000x96x128_0_1_2 (broadcastInDim S1x1x128 ![2] bcast_S128_S1x1x128_2 b2))) (ix3 n t j) : EReal)
      = x (ix3 n t j) + Spec.lin (fun o : Fin 256 => max (Spec.lin (fun i : Fin 128 => x (ix3 n t i)) (fun i o => w1 (ix2 o i)) (fun o => b1 (ix1 o)) o) 0) (fun i o => w2 (ix2 o i)) (fun o => b2 (ix1 o)) j := by
  pointwise [Spec.lin]

/-- The feed-forward block with its residual. -/
theorem forward_at (n : Fin 1000) (t : Fin 96) (j : Fin 128) :
    (res_main_v135 V (ix3 n t j) : EReal) = Spec.mid (params V) Sample.sample (row V n) t j
      + Spec.lin (Spec.ff (params V) Sample.sample (row V n) t) (params V).w2 (params V).b2 j := by
  refine (forward_read (res_main_v123 V) (V (Proc.devRef .tc main_arg11)) (V (Proc.devRef .tc main_arg12)) (V (Proc.devRef .tc main_arg13)) (V (Proc.devRef .tc main_arg14)) n t j).trans ?_
  refine congrArg₂ (fun u v : EReal => u + v) (mid_at V n t j) (congrArg (fun y => Spec.lin y _ _ j) (funext fun o => ?_))
  exact congrArg (fun y : Fin 128 → EReal => max (Spec.lin y _ _ o) 0) (funext fun i => mid_at V n t i)

/-- The result before the sum over the rows. -/
def outputs : FVec Ideal S1000x96x128 .f32 := normed (res_main_v135 V) (V (Proc.devRef .tc main_arg17)) (V (Proc.devRef .tc main_arg18))

theorem outputs_at (n : Fin 1000) (t : Fin 96) (j : Fin 128) :
    (outputs V (ix3 n t j) : EReal) = Spec.out (params V) Sample.sample (row V n) t j := by
  refine (normed_at (res_main_v135 V) (V (Proc.devRef .tc main_arg17)) (V (Proc.devRef .tc main_arg18)) n t j).trans ?_
  exact congrArg (fun y => Spec.norm y _ _ j) (funext fun i => forward_at V n t i)

/-- The rows of one batch, transposed, as an array of four axes. -/
theorem turned_read (x : FVec Ideal S1000x96x128 .f32) (b : Fin 4) (r : Fin 128) (s : Fin 96) (n : Fin 250) :
    transpose S4x128x96x250 [0, 3, 2, 1] (shapeCast _ x shapeCasts_S1000x96x128_S4x250x96x128) transposes_S4x250x96x128_S4x128x96x250_0_3_2_1 (ix4 b r s n)
      = x (ix3 ⟨b.val * 250 + n.val, by omega⟩ s r) := by
  pointwise

/-- The sum over the rows of one batch. -/
theorem summed_at (b : Fin 4) (r : Fin 128) (s : Fin 96) :
    (Host.reduceAdd (transpose S4x128x96x250 [0, 3, 2, 1] (shapeCast _ (outputs V) shapeCasts_S1000x96x128_S4x250x96x128) transposes_S4x250x96x128_S4x128x96x250_0_3_2_1) (constant S_ .f32 0x00000000#32) reducesTo_S4x128x96x250_S4x128x96_d3 h_S_ (ix3 b r s) : EReal)
      = ∑ n : Fin 250, Spec.out (params V) Sample.sample
          (fun t => (V (Proc.devRef .tc main_arg0) : Vec Ideal S1x4x250x96 .f32) (ix4 0 b n t)) s r := by
  refine (sum_last _ _ b r s).trans (Finset.sum_congr (M := EReal) rfl fun n _ => ?_)
  refine (turned_read (outputs V) b r s n).trans ((outputs_at V _ s r).trans ?_)
  refine congrArg (fun x => Spec.out (params V) Sample.sample x s r) (funext fun t => ?_)
  have e0 : (⟨(b.val * 250 + n.val) / 250, by omega⟩ : Fin 4) = b := Fin.ext (by simp only []; omega)
  have e1 : (⟨(b.val * 250 + n.val) % 250, Nat.mod_lt _ (by decide)⟩ : Fin 250) = n := Fin.ext (by simp only []; omega)
  unfold row
  rw [e0, e1]

end Cert.ReferenceIdeal.Layer
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.RefOut
public import Idealize.ShloMosaic.Adequacy
public import Idealize.ShloMosaic.Init

@[expose] public section

noncomputable section

namespace Cert.Proof

open Idealize.ShloMosaic Idealize.SL.Sem Cert.Kernel

/-- The mask is minus infinity and the rounded reciprocal is one ninety-sixth, as named. -/
theorem preserves : Cert.preserves_Kernel_KernelIdeal :=
  ⟨IdealRules.named_const.statement Cert.KernelIdeal.κ "mask" .f32 0xF149F2CA#32 ⊥ rfl,
    IdealRules.named_const.statement Cert.KernelIdeal.κ "r96" .f32 0x3C2AAAAB#32 ((96⁻¹ : ℝ) : EReal) rfl⟩

/-- The reference runs from every memory, keeps its arguments, and has no semaphore to leave raised. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the reference's result is the kernel's: both are the sum over the rows of the plain layer's output. -/
theorem results_agree (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (hp : Cert.ReferenceIdeal.Layer.params V = Cert.KernelIdeal.Layer.params m c)
    (hx : (V (Proc.devRef .tc Cert.ReferenceIdeal.main_arg0) : Vec Ideal Cert.KernelIdeal.S1x4x250x96 .f32) = m (c.tc.loc Cert.KernelIdeal.main_arg0)) :
    (Host.reduceAdd (transpose Cert.ReferenceIdeal.S4x128x96x250 [0, 3, 2, 1] (shapeCast _ (Cert.ReferenceIdeal.Layer.outputs V) Cert.ReferenceIdeal.Gen.shapeCasts_S1000x96x128_S4x250x96x128) Cert.ReferenceIdeal.Gen.transposes_S4x250x96x128_S4x128x96x250_0_3_2_1) (constant (F := Ideal) Cert.ReferenceIdeal.S_ .f32 0x00000000#32) Cert.ReferenceIdeal.Gen.reducesTo_S4x128x96x250_S4x128x96_d3 Cert.ReferenceIdeal.Gen.h_S_ : Vec Ideal Cert.KernelIdeal.S4x128x96 .f32)
      = Cert.KernelIdeal.Value.G21 m c := by
  funext j
  obtain ⟨b, r, s, rfl⟩ : ∃ (b : Fin 4) (r : Fin 128) (s : Fin 96), j = ix3 b r s := ⟨j 0, j 1, j 2, eq_ix3 j⟩
  refine (Cert.ReferenceIdeal.Layer.summed_at V b r s).trans (Eq.trans ?_ (Cert.KernelIdeal.Layer.result_rows m c b r s).symm)
  rw [hp, hx]
  rfl

/-- At `Ideal`, from equal arguments, the kernel and the reference end with equal results. -/
theorem algebraic : Cert.algebraic_KernelIdeal_ReferenceIdeal (hKernelIdeal := Cert.KernelIdeal.Gen.facts) (hReferenceIdeal := Cert.ReferenceIdeal.Gen.facts) := by
  pair_intro
  · run_from Cert.KernelIdeal.Value.run m g
  · run_from Cert.ReferenceIdeal.Value.run m' g'
    obtain ⟨h0, h1, h2, h3, h4, h5, h6, h7, h8, h9, h10, h11, h12, h13, h14, h15, h16, h17, h18⟩ := hagree c
    rw [← h17, ← h18]
    refine results_agree m c (StableHlo.launchContents m' c) ?_ h0
    change Cert.Spec.Par.of (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) (m' (c.tc.loc Cert.ReferenceIdeal.main_arg9)) (m' (c.tc.loc Cert.ReferenceIdeal.main_arg10)) (m' (c.tc.loc Cert.ReferenceIdeal.main_arg11)) (m' (c.tc.loc Cert.ReferenceIdeal.main_arg12)) (m' (c.tc.loc Cert.ReferenceIdeal.main_arg13)) (m' (c.tc.loc Cert.ReferenceIdeal.main_arg14)) (m' (c.tc.loc Cert.ReferenceIdeal.main_arg15)) (m' (c.tc.loc Cert.ReferenceIdeal.main_arg16)) (m' (c.tc.loc Cert.ReferenceIdeal.main_arg17)) (m' (c.tc.loc Cert.ReferenceIdeal.main_arg18)) = _
    rw [h1, h2, h3, h4, h5, h6, h7, h8, h9, h10, h11, h12, h13, h14, h15, h16, h17, h18]
    rfl

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference,
  preserves, algebraic⟩

end Cert.Proof

end
